-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_categories_and_finite_weights [hPre_categories_and_finite_weights : Cert.Pre_categories_and_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_categories_and_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_categories_and_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_categories_and_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_categories_and_finite_weights [hPre_categories_and_finite_weights : Cert.Pre_categories_and_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_categories_and_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_categories_and_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_categories_and_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_categories_and_finite_weights [hKernelIdeal : Cert.KernelIdeal.Facts] [hPre_categories_and_finite_weights : Cert.Pre_categories_and_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_categories_and_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_categories_and_finite_weights [hReferenceIdeal : Cert.ReferenceIdeal.Facts] [hPre_categories_and_finite_weights : Cert.Pre_categories_and_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_categories_and_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_categories_and_finite_weights [hKernelIdeal : Cert.KernelIdeal.Facts] [hReferenceIdeal : Cert.ReferenceIdeal.Facts] [hPre_categories_and_finite_weights : Cert.Pre_categories_and_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_categories_and_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v594) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_categories_and_finite_weights : Cert.Pre_categories_and_finite_weights.Facts),
    quiescent_Kernel (hKernel := hKernel)
    ∧ quiescent_KernelIdeal (hKernelIdeal := hKernelIdeal)
    ∧ quiescent_KernelIdeal_pre_categories_and_finite_weights (hKernelIdeal := hKernelIdeal) (hPre_categories_and_finite_weights := hPre_categories_and_finite_weights)
    ∧ quiescent_ReferenceIdeal (hReferenceIdeal := hReferenceIdeal)
    ∧ quiescent_ReferenceIdeal_pre_categories_and_finite_weights (hReferenceIdeal := hReferenceIdeal) (hPre_categories_and_finite_weights := hPre_categories_and_finite_weights)
    ∧ preserves_Kernel_KernelIdeal
    ∧ algebraic_KernelIdeal_ReferenceIdeal_pre_categories_and_finite_weights (hKernelIdeal := hKernelIdeal) (hReferenceIdeal := hReferenceIdeal) (hPre_categories_and_finite_weights := hPre_categories_and_finite_weights)
-- ==== Pre_categories_and_finite_weights.lean ====
abbrev S64x8192 : Shape := ⟨2, ![64, 8192]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  bcast_S_S8192 : S_.BroadcastsInDim S8192 (![] : Fin 0 → Fin S8192.rank)

variable [Facts]

def fn {F : FTy → Type} [FloatOps F] (main_arg0 : IVec S64x8192 32) (main_arg1 : FVec F S8192 .f32) (main_arg2 : FVec F S8192 .f32) : IVec S64x8192 1 × IVec S8192 1 × IVec S8192 1 :=
  let main_c : IVec S_ 32 := constantI S_ 32 0#32
  let main_v0 : IVec S64x8192 32 := broadcastInDim S64x8192 ![] bcast_S_S64x8192 main_c
  let main_v1 : IVec S64x8192 1 := cmpi .sge main_arg0 main_v0
  let main_c_0 : IVec S_ 32 := constantI S_ 32 64#32
  let main_v2 : IVec S64x8192 32 := broadcastInDim S64x8192 ![] bcast_S_S64x8192 main_c_0
  let main_v3 : IVec S64x8192 1 := cmpi .slt main_arg0 main_v2
  let main_v4 : IVec S64x8192 1 := andi main_v1 main_v3
  let main_cst : FVec F S_ .f32 := constant S_ .f32 0xFF800000#32
  let main_v5 : FVec F S8192 .f32 := broadcastInDim S8192 ![] bcast_S_S8192 main_cst
  let main_v6 : IVec S8192 1 := cmpf .ogt main_arg1 main_v5
  let main_cst_1 : FVec F S_ .f32 := constant S_ .f32 0x7F800000#32
  let main_v7 : FVec F S8192 .f32 := broadcastInDim S8192 ![] bcast_S_S8192 main_cst_1
  let main_v8 : IVec S8192 1 := cmpf .olt main_arg1 main_v7
  let main_v9 : IVec S8192 1 := andi main_v6 main_v8
  let main_cst_2 : FVec F S_ .f32 := constant S_ .f32 0xFF800000#32
  let main_v10 : FVec F S8192 .f32 := broadcastInDim S8192 ![] bcast_S_S8192 main_cst_2
  let main_v11 : IVec S8192 1 := cmpf .ogt main_arg2 main_v10
  let main_cst_3 : FVec F S_ .f32 := constant S_ .f32 0x7F800000#32
  let main_v12 : FVec F S8192 .f32 := broadcastInDim S8192 ![] bcast_S_S8192 main_cst_3
  let main_v13 : IVec S8192 1 := cmpf .olt main_arg2 main_v12
  let main_v14 : IVec S8192 1 := andi main_v11 main_v13
  (main_v4, main_v9, main_v14)
-- ==== Kernel.lean ====
abbrev S64x8192 : Shape := ⟨2, ![64, 8192]⟩
abbrev S8192 : Shape := ⟨1, ![8192]⟩
abbrev S64x2 : Shape := ⟨2, ![64, 2]⟩
abbrev S1x8192 : Shape := ⟨2, ![1, 8192]⟩
abbrev S64x1024 : Shape := ⟨2, ![64, 1024]⟩
abbrev S64x1 : Shape := ⟨2, ![64, 1]⟩
abbrev S1x1024 : Shape := ⟨2, ![1, 1024]⟩
abbrev S64 : Shape := ⟨1, ![64]⟩

abbrev nBuf : Space → Nat
  | .hbm => 7
  | .vmem => 6
  | .smem => 0
  | _ => 0

abbrev bufTy : (tb : Table) → Fin (tcTables nBuf tb) → BufTy
  | .hbm, ⟨0, _⟩ => ⟨S64x8192, .i32⟩
  | .hbm, ⟨1, _⟩ => ⟨S8192, .f32⟩
  | .hbm, ⟨2, _⟩ => ⟨S8192, .f32⟩
  | .hbm, ⟨3, _⟩ => ⟨S64x2, .f32⟩
  | .hbm, ⟨4, _⟩ => ⟨S1x8192, .f32⟩
  | .hbm, ⟨5, _⟩ => ⟨S1x8192, .f32⟩
  | .hbm, ⟨6, _⟩ => ⟨S64x8192, .i32⟩
  | .local _ .vmem, ⟨0, _⟩ => ⟨S64x8192, .i32⟩
  | .local _ .vmem, ⟨1, _⟩ => ⟨S1x8192, .f32⟩
  | .local _ .vmem, ⟨2, _⟩ => ⟨S1x8192, .f32⟩
  | .local _ .vmem, ⟨3, _⟩ => ⟨S64x2, .f32⟩
  | .local _ .vmem, ⟨4, _⟩ => ⟨S64x8192, .i32⟩
  | .local _ .vmem, ⟨5, _⟩ => ⟨S64x8192, .i32⟩
  | _, _ => ⟨S64x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_off1 (k0_t1 : Fin k0_t1_loop.trips) : Fin 2 → Nat :=
  let c0_13 : Index := 0#32
  let c0_i32 : BitVec 32 := 0#32
  let c1_i32 : BitVec 32 := 1#32
  let arg7 : BitVec 32 := Scf.iv c0_i32 c1_i32 k0_t1
  let c1024_i32 : BitVec 32 := 1024#32
  let v27 : BitVec 32 := Scalar.muli arg7 c1024_i32
  let v28 : Index := Scalar.indexCast v27
  ![0, v28.toNat]
def k0_off2 (k0_t1 : Fin k0_t1_loop.trips) : Fin 2 → Nat :=
  let c0_14 : Index := 0#32
  let c0_i32 : BitVec 32 := 0#32
  let c1_i32 : BitVec 32 := 1#32
  let arg7 : BitVec 32 := Scf.iv c0_i32 c1_i32 k0_t1
  let c1024_i32 : BitVec 32 := 1024#32
  let v27 : BitVec 32 := Scalar.muli arg7 c1024_i32
  let v30 : Index := Scalar.indexCast v27
  ![0, v30.toNat]
@[reducible] def k0_t2_loop : Scf.Loop 32 :=
  let c0_i32_4 : BitVec 32 := 0#32
  let c8_i32_5 : BitVec 32 := 8#32
  let v19 : BitVec 32 := Scalar.addi c0_i32_4 c8_i32_5
  let c1_i32_6 : BitVec 32 := 1#32
  ⟨c0_i32_4, v19, c1_i32_6⟩
def k0_off3 (k0_t2 : Fin k0_t2_loop.trips) : Fin 2 → Nat :=
  let c0_13 : Index := 0#32
  let c0_i32_4 : BitVec 32 := 0#32
  let c1_i32_6 : BitVec 32 := 1#32
  let arg7 : BitVec 32 := Scf.iv c0_i32_4 c1_i32_6 k0_t2
  let c1024_i32 : BitVec 32 := 1024#32
  let v27 : BitVec 32 := Scalar.muli arg7 c1024_i32
  let v28 : Index := Scalar.indexCast v27
  ![0, v28.toNat]
def k0_off4 (k0_t2 : Fin k0_t2_loop.trips) : Fin 2 → Nat :=
  let c0_16 : Index := 0#32
  let c0_i32_4 : BitVec 32 := 0#32
  let c1_i32_6 : BitVec 32 := 1#32
  let arg7 : BitVec 32 := Scf.iv c0_i32_4 c1_i32_6 k0_t2
  let c1024_i32 : BitVec 32 := 1024#32
  let v27 : BitVec 32 := Scalar.muli arg7 c1024_i32
  let v37 : Index := Scalar.indexCast v27
  ![0, v37.toNat]
@[reducible] def k0_t3_loop : Scf.Loop 32 :=
  let c0_i32_9 : BitVec 32 := 0#32
  let c8_i32_10 : BitVec 32 := 8#32
  let v26 : BitVec 32 := Scalar.addi c0_i32_9 c8_i32_10
  let c1_i32_11 : BitVec 32 := 1#32
  ⟨c0_i32_9, v26, c1_i32_11⟩
def k0_off5 (k0_t3 : Fin k0_t3_loop.trips) : Fin 2 → Nat :=
  let c0_13 : Index := 0#32
  let c0_i32_9 : BitVec 32 := 0#32
  let c1_i32_11 : BitVec 32 := 1#32
  let arg7 : BitVec 32 := Scf.iv c0_i32_9 c1_i32_11 k0_t3
  let c1024_i32 : BitVec 32 := 1024#32
  let v27 : BitVec 32 := Scalar.muli arg7 c1024_i32
  let v28 : Index := Scalar.indexCast v27
  ![0, v28.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ReferenceIdeal.lean ====
abbrev S64x8192 : Shape := ⟨2, ![64, 8192]⟩
abbrev S8192 : Shape := ⟨1, ![8192]⟩
abbrev S_ : Shape := ⟨0, ![]⟩
abbrev S1 : Shape := ⟨1, ![1]⟩
abbrev S4 : Shape := ⟨1, ![4]⟩
abbrev S4x1x1x1 : Shape := ⟨4, ![4, 1, 1, 1]⟩
abbrev S64x8192x64 : Shape := ⟨3, ![64, 8192, 64]⟩
abbrev S4x64x8192x64 : Shape := ⟨4, ![4, 64, 8192, 64]⟩
abbrev S1x64x8192x64 : Shape := ⟨4, ![1, 64, 8192, 64]⟩
abbrev S2x64x8192x64 : Shape := ⟨4, ![2, 64, 8192, 64]⟩
abbrev S2x1x1x64 : Shape := ⟨4, ![2, 1, 1, 64]⟩
abbrev S2x64 : Shape := ⟨2, ![2, 64]⟩
abbrev S1x64 : Shape := ⟨2, ![1, 64]⟩
abbrev S64 : Shape := ⟨1, ![64]⟩
abbrev S1x8192 : Shape := ⟨2, ![1, 8192]⟩
abbrev S1x1x64 : Shape := ⟨3, ![1, 1, 64]⟩
abbrev S64x8192x1 : Shape := ⟨3, ![64, 8192, 1]⟩
abbrev S64x1 : Shape := ⟨2, ![64, 1]⟩

abbrev nBuf : Space → Nat
  | .hbm => 812
  | .vmem => 0
  | .smem => 0
  | _ => 0

abbrev hbmTy0_0 (i : Nat) : BufTy := match i % 128 with
  | 0 => ⟨S64x8192, .i32⟩
  | 1 => ⟨S8192, .f32⟩
  | 2 => ⟨S8192, .f32⟩
  | 3 => ⟨S_, .i32⟩
  | 4 => ⟨S_, .i32⟩
  | 5 => ⟨S_, .i32⟩
  | 6 => ⟨S_, .i32⟩
  | 7 => ⟨S1, .i32⟩
  | 8 => ⟨S1, .i32⟩
  | 9 => ⟨S1, .i32⟩
  | 10 => ⟨S1, .i32⟩
  | 11 => ⟨S4, .i32⟩
  | 12 => ⟨S4x1x1x1, .i32⟩
  | 13 => ⟨S_, .i32⟩
  | 14 => ⟨S_, .i32⟩
  | 15 => ⟨S_, .i32⟩
  | 16 => ⟨S_, .i32⟩
  | 17 => ⟨S1, .i32⟩
  | 18 => ⟨S1, .i32⟩
  | 19 => ⟨S1, .i32⟩
  | 20 => ⟨S1, .i32⟩
  | 21 => ⟨S4, .i32⟩
  | 22 => ⟨S4x1x1x1, .i32⟩
  | 23 => ⟨S4x1x1x1, .i32⟩
  | 24 => ⟨S_, .i32⟩
  | 25 => ⟨S4x1x1x1, .i32⟩
  | 26 => ⟨S4x1x1x1, .i32⟩
  | 27 => ⟨S_, .i32⟩
  | 28 => ⟨S64x8192x64, .i32⟩
  | 29 => ⟨S_, .i32⟩
  | 30 => ⟨S64x8192x64, .i32⟩
  | 31 => ⟨S64x8192x64, .i32⟩
  | 32 => ⟨S64x8192x64, .i32⟩
  | 33 => ⟨S64x8192x64, .i32⟩
  | 34 => ⟨S_, .i32⟩
  | 35 => ⟨S64x8192x64, .i32⟩
  | 36 => ⟨S64x8192x64, .i32⟩
  | 37 => ⟨S64x8192x64, .i32⟩
  | 38 => ⟨S64x8192x64, .i32⟩
  | 39 => ⟨S_, .i32⟩
  | 40 => ⟨S64x8192x64, .i32⟩
  | 41 => ⟨S64x8192x64, .i32⟩
  | 42 => ⟨S64x8192x64, .i32⟩
  | 43 => ⟨S64x8192x64, .i32⟩
  | 44 => ⟨S_, .i32⟩
  | 45 => ⟨S4x64x8192x64, .i32⟩
  | 46 => ⟨S4x64x8192x64, .i32⟩
  | 47 => ⟨S4x64x8192x64, .i32⟩
  | 48 => ⟨S1x64x8192x64, .i32⟩
  | 49 => ⟨S4x64x8192x64, .i32⟩
  | 50 => ⟨S4x64x8192x64, .i32⟩
  | 51 => ⟨S4x64x8192x64, .i32⟩
  | 52 => ⟨S4x64x8192x64, .i32⟩
  | 53 => ⟨S_, .i32⟩
  | 54 => ⟨S4x64x8192x64, .i32⟩
  | 55 => ⟨S4x64x8192x64, .i32⟩
  | 56 => ⟨S_, .i32⟩
  | 57 => ⟨S4x64x8192x64, .i32⟩
  | 58 => ⟨S4x64x8192x64, .i32⟩
  | 59 => ⟨S4x64x8192x64, .i32⟩
  | 60 => ⟨S4x64x8192x64, .i32⟩
  | 61 => ⟨S4x64x8192x64, .i32⟩
  | 62 => ⟨S_, .i32⟩
  | 63 => ⟨S4x64x8192x64, .i32⟩
  | 64 => ⟨S4x64x8192x64, .i32⟩
  | 65 => ⟨S_, .i32⟩
  | 66 => ⟨S4x64x8192x64, .i32⟩
  | 67 => ⟨S4x64x8192x64, .i32⟩
  | 68 => ⟨S4x64x8192x64, .i32⟩
  | 69 => ⟨S4x64x8192x64, .i32⟩
  | 70 => ⟨S4x64x8192x64, .i32⟩
  | 71 => ⟨S_, .i32⟩
  | 72 => ⟨S4x64x8192x64, .i32⟩
  | 73 => ⟨S4x64x8192x64, .i32⟩
  | 74 => ⟨S_, .i32⟩
  | 75 => ⟨S4x64x8192x64, .i32⟩
  | 76 => ⟨S4x64x8192x64, .i32⟩
  | 77 => ⟨S4x64x8192x64, .i32⟩
  | 78 => ⟨S4x64x8192x64, .i32⟩
  | 79 => ⟨S4x64x8192x64, .i32⟩
  | 80 => ⟨S_, .i32⟩
  | 81 => ⟨S4x64x8192x64, .i32⟩
  | 82 => ⟨S4x64x8192x64, .i32⟩
  | 83 => ⟨S_, .i32⟩
  | 84 => ⟨S4x64x8192x64, .i32⟩
  | 85 => ⟨S4x64x8192x64, .i32⟩
  | 86 => ⟨S4x64x8192x64, .i32⟩
  | 87 => ⟨S4x64x8192x64, .i32⟩
  | 88 => ⟨S4x64x8192x64, .i32⟩
  | 89 => ⟨S4x64x8192x64, .i32⟩
  | 90 => ⟨S_, .i32⟩
  | 91 => ⟨S4x1x1x1, .i32⟩
  | 92 => ⟨S4x1x1x1, .i32⟩
  | 93 => ⟨S4x64x8192x64, .i32⟩
  | 94 => ⟨S4x64x8192x64, .i32⟩
  | 95 => ⟨S4x64x8192x64, .i32⟩
  | 96 => ⟨S_, .i32⟩
  | 97 => ⟨S4x64x8192x64, .i32⟩
  | 98 => ⟨S4x64x8192x64, .i32⟩
  | 99 => ⟨S_, .i32⟩
  | 100 => ⟨S4x64x8192x64, .i32⟩
  | 101 => ⟨S4x64x8192x64, .i32⟩
  | 102 => ⟨S4x64x8192x64, .i32⟩
  | 103 => ⟨S4x64x8192x64, .i32⟩
  | 104 => ⟨S4x64x8192x64, .i32⟩
  | 105 => ⟨S_, .i32⟩
  | 106 => ⟨S4x64x8192x64, .i32⟩
  | 107 => ⟨S4x64x8192x64, .i32⟩
  | 108 => ⟨S_, .i32⟩
  | 109 => ⟨S4x64x8192x64, .i32⟩
  | 110 => ⟨S4x64x8192x64, .i32⟩
  | 111 => ⟨S4x64x8192x64, .i32⟩
  | 112 => ⟨S4x64x8192x64, .i32⟩
  | 113 => ⟨S4x64x8192x64, .i32⟩
  | 114 => ⟨S_, .i32⟩
  | 115 => ⟨S4x64x8192x64, .i32⟩
  | 116 => ⟨S4x64x8192x64, .i32⟩
  | 117 => ⟨S_, .i32⟩
  | 118 => ⟨S4x64x8192x64, .i32⟩
  | 119 => ⟨S4x64x8192x64, .i32⟩
  | 120 => ⟨S4x64x8192x64, .i32⟩
  | 121 => ⟨S4x64x8192x64, .i32⟩
  | 122 => ⟨S4x64x8192x64, .i32⟩
  | 123 => ⟨S_, .i32⟩
  | 124 => ⟨S4x64x8192x64, .i32⟩
  | 125 => ⟨S4x64x8192x64, .i32⟩
  | 126 => ⟨S_, .i32⟩
  | 127 => ⟨S4x64x8192x64, .i32⟩
  | _ => ⟨S64x8192, .i32⟩

abbrev hbmTy0_1 (i : Nat) : BufTy := match i % 128 with
  | 0 => ⟨S4x64x8192x64, .i32⟩
  | 1 => ⟨S4x64x8192x64, .i32⟩
  | 2 => ⟨S4x64x8192x64, .i32⟩
  | 3 => ⟨S4x64x8192x64, .i32⟩
  | 4 => ⟨S4x64x8192x64, .i32⟩
  | 5 => ⟨S_, .i32⟩
  | 6 => ⟨S4x1x1x1, .i32⟩
  | 7 => ⟨S4x1x1x1, .i32⟩
  | 8 => ⟨S4x64x8192x64, .i32⟩
  | 9 => ⟨S4x64x8192x64, .i32⟩
  | 10 => ⟨S4x64x8192x64, .i32⟩
  | 11 => ⟨S_, .i32⟩
  | 12 => ⟨S4x64x8192x64, .i32⟩
  | 13 => ⟨S4x64x8192x64, .i32⟩
  | 14 => ⟨S_, .i32⟩
  | 15 => ⟨S4x64x8192x64, .i32⟩
  | 16 => ⟨S4x64x8192x64, .i32⟩
  | 17 => ⟨S4x64x8192x64, .i32⟩
  | 18 => ⟨S4x64x8192x64, .i32⟩
  | 19 => ⟨S4x64x8192x64, .i32⟩
  | 20 => ⟨S_, .i32⟩
  | 21 => ⟨S4x64x8192x64, .i32⟩
  | 22 => ⟨S4x64x8192x64, .i32⟩
  | 23 => ⟨S_, .i32⟩
  | 24 => ⟨S4x64x8192x64, .i32⟩
  | 25 => ⟨S4x64x8192x64, .i32⟩
  | 26 => ⟨S4x64x8192x64, .i32⟩
  | 27 => ⟨S4x64x8192x64, .i32⟩
  | 28 => ⟨S4x64x8192x64, .i32⟩
  | 29 => ⟨S_, .i32⟩
  | 30 => ⟨S4x64x8192x64, .i32⟩
  | 31 => ⟨S4x64x8192x64, .i32⟩
  | 32 => ⟨S_, .i32⟩
  | 33 => ⟨S4x64x8192x64, .i32⟩
  | 34 => ⟨S4x64x8192x64, .i32⟩
  | 35 => ⟨S4x64x8192x64, .i32⟩
  | 36 => ⟨S4x64x8192x64, .i32⟩
  | 37 => ⟨S4x64x8192x64, .i32⟩
  | 38 => ⟨S_, .i32⟩
  | 39 => ⟨S4x64x8192x64, .i32⟩
  | 40 => ⟨S4x64x8192x64, .i32⟩
  | 41 => ⟨S_, .i32⟩
  | 42 => ⟨S4x64x8192x64, .i32⟩
  | 43 => ⟨S4x64x8192x64, .i32⟩
  | 44 => ⟨S4x64x8192x64, .i32⟩
  | 45 => ⟨S4x64x8192x64, .i32⟩
  | 46 => ⟨S4x64x8192x64, .i32⟩
  | 47 => ⟨S4x64x8192x64, .i32⟩
  | 48 => ⟨S_, .i32⟩
  | 49 => ⟨S4x1x1x1, .i32⟩
  | 50 => ⟨S4x1x1x1, .i32⟩
  | 51 => ⟨S4x64x8192x64, .i32⟩
  | 52 => ⟨S4x64x8192x64, .i32⟩
  | 53 => ⟨S4x64x8192x64, .i32⟩
  | 54 => ⟨S_, .i32⟩
  | 55 => ⟨S4x64x8192x64, .i32⟩
  | 56 => ⟨S4x64x8192x64, .i32⟩
  | 57 => ⟨S_, .i32⟩
  | 58 => ⟨S4x64x8192x64, .i32⟩
  | 59 => ⟨S4x64x8192x64, .i32⟩
  | 60 => ⟨S4x64x8192x64, .i32⟩
  | 61 => ⟨S4x64x8192x64, .i32⟩
  | 62 => ⟨S4x64x8192x64, .i32⟩
  | 63 => ⟨S_, .i32⟩
  | 64 => ⟨S4x64x8192x64, .i32⟩
  | 65 => ⟨S4x64x8192x64, .i32⟩
  | 66 => ⟨S_, .i32⟩
  | 67 => ⟨S4x64x8192x64, .i32⟩
  | 68 => ⟨S4x64x8192x64, .i32⟩
  | 69 => ⟨S4x64x8192x64, .i32⟩
  | 70 => ⟨S4x64x8192x64, .i32⟩
  | 71 => ⟨S4x64x8192x64, .i32⟩
  | 72 => ⟨S_, .i32⟩
  | 73 => ⟨S4x64x8192x64, .i32⟩
  | 74 => ⟨S4x64x8192x64, .i32⟩
  | 75 => ⟨S_, .i32⟩
  | 76 => ⟨S4x64x8192x64, .i32⟩
  | 77 => ⟨S4x64x8192x64, .i32⟩
  | 78 => ⟨S4x64x8192x64, .i32⟩
  | 79 => ⟨S4x64x8192x64, .i32⟩
  | 80 => ⟨S4x64x8192x64, .i32⟩
  | 81 => ⟨S_, .i32⟩
  | 82 => ⟨S4x64x8192x64, .i32⟩
  | 83 => ⟨S4x64x8192x64, .i32⟩
  | 84 => ⟨S_, .i32⟩
  | 85 => ⟨S4x64x8192x64, .i32⟩
  | 86 => ⟨S4x64x8192x64, .i32⟩
  | 87 => ⟨S4x64x8192x64, .i32⟩
  | 88 => ⟨S4x64x8192x64, .i32⟩
  | 89 => ⟨S4x64x8192x64, .i32⟩
  | 90 => ⟨S4x64x8192x64, .i32⟩
  | 91 => ⟨S_, .i32⟩
  | 92 => ⟨S4x1x1x1, .i32⟩
  | 93 => ⟨S4x1x1x1, .i32⟩
  | 94 => ⟨S4x64x8192x64, .i32⟩
  | 95 => ⟨S4x64x8192x64, .i32⟩
  | 96 => ⟨S4x64x8192x64, .i32⟩
  | 97 => ⟨S_, .i32⟩
  | 98 => ⟨S4x64x8192x64, .i32⟩
  | 99 => ⟨S4x64x8192x64, .i32⟩
  | 100 => ⟨S_, .i32⟩
  | 101 => ⟨S4x64x8192x64, .i32⟩
  | 102 => ⟨S4x64x8192x64, .i32⟩
  | 103 => ⟨S4x64x8192x64, .i32⟩
  | 104 => ⟨S4x64x8192x64, .i32⟩
  | 105 => ⟨S4x64x8192x64, .i32⟩
  | 106 => ⟨S_, .i32⟩
  | 107 => ⟨S4x64x8192x64, .i32⟩
  | 108 => ⟨S4x64x8192x64, .i32⟩
  | 109 => ⟨S_, .i32⟩
  | 110 => ⟨S4x64x8192x64, .i32⟩
  | 111 => ⟨S4x64x8192x64, .i32⟩
  | 112 => ⟨S4x64x8192x64, .i32⟩
  | 113 => ⟨S4x64x8192x64, .i32⟩
  | 114 => ⟨S4x64x8192x64, .i32⟩
  | 115 => ⟨S_, .i32⟩
  | 116 => ⟨S4x64x8192x64, .i32⟩
  | 117 => ⟨S4x64x8192x64, .i32⟩
  | 118 => ⟨S_, .i32⟩
  | 119 => ⟨S4x64x8192x64, .i32⟩
  | 120 => ⟨S4x64x8192x64, .i32⟩
  | 121 => ⟨S4x64x8192x64, .i32⟩
  | 122 => ⟨S4x64x8192x64, .i32⟩
  | 123 => ⟨S4x64x8192x64, .i32⟩
  | 124 => ⟨S_, .i32⟩
  | 125 => ⟨S4x64x8192x64, .i32⟩
  | 126 => ⟨S4x64x8192x64, .i32⟩
  | 127 => ⟨S_, .i32⟩
  | _ => ⟨S64x8192, .i32⟩

abbrev hbmTy0_2 (i : Nat) : BufTy := match i % 128 with
  | 0 => ⟨S4x64x8192x64, .i32⟩
  | 1 => ⟨S4x64x8192x64, .i32⟩
  | 2 => ⟨S4x64x8192x64, .i32⟩
  | 3 => ⟨S4x64x8192x64, .i32⟩
  | 4 => ⟨S4x64x8192x64, .i32⟩
  | 5 => ⟨S4x64x8192x64, .i32⟩
  | 6 => ⟨S_, .i32⟩
  | 7 => ⟨S4x1x1x1, .i32⟩
  | 8 => ⟨S4x1x1x1, .i32⟩
  | 9 => ⟨S4x64x8192x64, .i32⟩
  | 10 => ⟨S4x64x8192x64, .i32⟩
  | 11 => ⟨S4x64x8192x64, .i32⟩
  | 12 => ⟨S2x64x8192x64, .i32⟩
  | 13 => ⟨S_, .i32⟩
  | 14 => ⟨S2x64x8192x64, .i32⟩
  | 15 => ⟨S_, .i32⟩
  | 16 => ⟨S2x64x8192x64, .i32⟩
  | 17 => ⟨S2x64x8192x64, .i32⟩
  | 18 => ⟨S2x64x8192x64, .i32⟩
  | 19 => ⟨S2x64x8192x64, .f32⟩
  | 20 => ⟨S_, .f32⟩
  | 21 => ⟨S2x64x8192x64, .f32⟩
  | 22 => ⟨S2x64x8192x64, .f32⟩
  | 23 => ⟨S_, .f32⟩
  | 24 => ⟨S2x64x8192x64, .f32⟩
  | 25 => ⟨S2x64x8192x64, .f32⟩
  | 26 => ⟨S2x64x8192x64, .f32⟩
  | 27 => ⟨S2x64x8192x64, .f32⟩
  | 28 => ⟨S2x64x8192x64, .f32⟩
  | 29 => ⟨S2x64x8192x64, .f32⟩
  | 30 => ⟨S2x1x1x64, .i32⟩
  | 31 => ⟨S2x64, .i32⟩
  | 32 => ⟨S_, .i32⟩
  | 33 => ⟨S2x64, .i32⟩
  | 34 => ⟨S_, .i32⟩
  | 35 => ⟨S2x64, .i32⟩
  | 36 => ⟨S2x64, .i32⟩
  | 37 => ⟨S2x64, .i32⟩
  | 38 => ⟨S2x64, .f32⟩
  | 39 => ⟨S_, .f32⟩
  | 40 => ⟨S2x64, .f32⟩
  | 41 => ⟨S2x64, .f32⟩
  | 42 => ⟨S1x64x8192x64, .f32⟩
  | 43 => ⟨S64x8192x64, .f32⟩
  | 44 => ⟨S1x64, .f32⟩
  | 45 => ⟨S64, .f32⟩
  | 46 => ⟨S64x8192, .f32⟩
  | 47 => ⟨S1x8192, .f32⟩
  | 48 => ⟨S64x8192, .f32⟩
  | 49 => ⟨S64x8192, .f32⟩
  | 50 => ⟨S_, .f32⟩
  | 51 => ⟨S64, .f32⟩
  | 52 => ⟨S64x8192, .f32⟩
  | 53 => ⟨S1x8192, .f32⟩
  | 54 => ⟨S64x8192, .f32⟩
  | 55 => ⟨S64x8192, .f32⟩
  | 56 => ⟨S_, .f32⟩
  | 57 => ⟨S64, .f32⟩
  | 58 => ⟨S_, .f32⟩
  | 59 => ⟨S64, .f32⟩
  | 60 => ⟨S64, .f32⟩
  | 61 => ⟨S64, .f32⟩
  | 62 => ⟨S_, .f32⟩
  | 63 => ⟨S_, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S64x8192, .f32⟩
  | 71 => ⟨S64x8192, .f32⟩
  | 72 => ⟨S64x8192, .f32⟩
  | 73 => ⟨S64x8192, .f32⟩
  | 74 => ⟨S64x8192, .f32⟩
  | 75 => ⟨S64x8192, .f32⟩
  | 76 => ⟨S64x8192, .f32⟩
  | 77 => ⟨S64x8192, .f32⟩
  | 78 => ⟨S64x8192, .f32⟩
  | 79 => ⟨S64x8192, .f32⟩
  | 80 => ⟨S64, .f32⟩
  | 81 => ⟨S1x1x64, .f32⟩
  | 82 => ⟨S64x8192, .f32⟩
  | 83 => ⟨S64x8192x1, .f32⟩
  | 84 => ⟨S64x8192x1, .f32⟩
  | 85 => ⟨S64x8192x64, .f32⟩
  | 86 => ⟨S64x8192x64, .f32⟩
  | 87 => ⟨S64x8192x64, .f32⟩
  | 88 => ⟨S64x8192x64, .f32⟩
  | 89 => ⟨S64x8192x64, .f32⟩
  | 90 => ⟨S64x8192x64, .f32⟩
  | 91 => ⟨S64x8192x64, .f32⟩
  | 92 => ⟨S64x8192x64, .f32⟩
  | 93 => ⟨S64x8192x64, .f32⟩
  | 94 => ⟨S_, .f32⟩
  | 95 => ⟨S64x8192x64, .f32⟩
  | 96 => ⟨S64x8192x64, .f32⟩
  | 97 => ⟨S64x8192x64, .f32⟩
  | 98 => ⟨S64x8192x64, .f32⟩
  | 99 => ⟨S64x8192x64, .f32⟩
  | 100 => ⟨S64x8192x64, .f32⟩
  | 101 => ⟨S_, .f32⟩
  | 102 => ⟨S64x8192x64, .f32⟩
  | 103 => ⟨S64x8192x64, .i1⟩
  | 104 => ⟨S64x8192x64, .f32⟩
  | 105 => ⟨S_, .f32⟩
  | 106 => ⟨S_, .f32⟩
  | 107 => ⟨S64x8192x64, .f32⟩
  | 108 => ⟨S64x8192x64, .f32⟩
  | 109 => ⟨S64x8192x64, .f32⟩
  | 110 => ⟨S64, .i32⟩
  | 111 => ⟨S1x1x64, .i32⟩
  | 112 => ⟨S_, .f32⟩
  | 113 => ⟨S64x8192, .f32⟩
  | 114 => ⟨S64x8192x1, .f32⟩
  | 115 => ⟨S64x8192x64, .f32⟩
  | 116 => ⟨S64x8192x64, .i1⟩
  | 117 => ⟨S_, .i32⟩
  | 118 => ⟨S_, .i32⟩
  | 119 => ⟨S64x8192x64, .i32⟩
  | 120 => ⟨S64x8192x64, .i32⟩
  | 121 => ⟨S64x8192x64, .i32⟩
  | 122 => ⟨S_, .i32⟩
  | 123 => ⟨S64x8192, .i32⟩
  | 124 => ⟨S_, .f32⟩
  | 125 => ⟨S64x8192, .f32⟩
  | 126 => ⟨S_, .f32⟩
  | 127 => ⟨S64x8192, .f32⟩
  | _ => ⟨S64x8192, .i32⟩

abbrev hbmTy0_3 (i : Nat) : BufTy := match i % 128 with
  | 0 => ⟨S64x8192, .f32⟩
  | 1 => ⟨S64x8192x1, .f32⟩
  | 2 => ⟨S64x8192x64, .f32⟩
  | 3 => ⟨S64x8192x64, .f32⟩
  | 4 => ⟨S64x8192x64, .f32⟩
  | 5 => ⟨S_, .f32⟩
  | 6 => ⟨S64x8192, .f32⟩
  | 7 => ⟨S64x8192x1, .f32⟩
  | 8 => ⟨S64x8192x1, .f32⟩
  | 9 => ⟨S64x8192x64, .f32⟩
  | 10 => ⟨S64x8192x64, .f32⟩
  | 11 => ⟨S64, .i32⟩
  | 12 => ⟨S1x1x64, .i32⟩
  | 13 => ⟨S64x8192x1, .i32⟩
  | 14 => ⟨S64x8192x64, .i32⟩
  | 15 => ⟨S64x8192x64, .i32⟩
  | 16 => ⟨S64x8192x64, .i1⟩
  | 17 => ⟨S_, .f32⟩
  | 18 => ⟨S_, .f32⟩
  | 19 => ⟨S64x8192x64, .f32⟩
  | 20 => ⟨S64x8192x64, .f32⟩
  | 21 => ⟨S_, .f32⟩
  | 22 => ⟨S64x8192, .f32⟩
  | 23 => ⟨S_, .f32⟩
  | 24 => ⟨S64, .f32⟩
  | 25 => ⟨S64x8192, .f32⟩
  | 26 => ⟨S1x8192, .f32⟩
  | 27 => ⟨S64x8192, .f32⟩
  | 28 => ⟨S64x8192, .f32⟩
  | 29 => ⟨S_, .f32⟩
  | 30 => ⟨S64, .f32⟩
  | 31 => ⟨S64x8192, .f32⟩
  | 32 => ⟨S1x8192, .f32⟩
  | 33 => ⟨S64x8192, .f32⟩
  | 34 => ⟨S64x8192, .f32⟩
  | 35 => ⟨S_, .f32⟩
  | 36 => ⟨S64, .f32⟩
  | 37 => ⟨S_, .f32⟩
  | 38 => ⟨S64, .f32⟩
  | 39 => ⟨S64, .f32⟩
  | 40 => ⟨S64, .f32⟩
  | 41 => ⟨S_, .f32⟩
  | 42 => ⟨S_, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S64x8192, .f32⟩
  | 50 => ⟨S64x8192, .f32⟩
  | 51 => ⟨S64x8192, .f32⟩
  | 52 => ⟨S64x8192, .f32⟩
  | 53 => ⟨S64x8192, .f32⟩
  | 54 => ⟨S64x8192, .f32⟩
  | 55 => ⟨S64x8192, .f32⟩
  | 56 => ⟨S64x8192, .f32⟩
  | 57 => ⟨S64x8192, .f32⟩
  | 58 => ⟨S64x8192, .f32⟩
  | 59 => ⟨S_, .f32⟩
  | 60 => ⟨S64x8192, .f32⟩
  | 61 => ⟨S64x8192, .f32⟩
  | 62 => ⟨S64, .f32⟩
  | 63 => ⟨S1x1x64, .f32⟩
  | 64 => ⟨S64x8192, .f32⟩
  | 65 => ⟨S64x8192x1, .f32⟩
  | 66 => ⟨S64x8192x1, .f32⟩
  | 67 => ⟨S64x8192x64, .f32⟩
  | 68 => ⟨S64x8192x64, .f32⟩
  | 69 => ⟨S64x8192x64, .f32⟩
  | 70 => ⟨S64x8192x64, .f32⟩
  | 71 => ⟨S64x8192x64, .f32⟩
  | 72 => ⟨S64x8192x64, .f32⟩
  | 73 => ⟨S64x8192x64, .f32⟩
  | 74 => ⟨S64x8192x64, .f32⟩
  | 75 => ⟨S64x8192x64, .f32⟩
  | 76 => ⟨S_, .f32⟩
  | 77 => ⟨S64x8192x64, .f32⟩
  | 78 => ⟨S64x8192x64, .f32⟩
  | 79 => ⟨S64x8192x64, .f32⟩
  | 80 => ⟨S64x8192x64, .f32⟩
  | 81 => ⟨S64x8192x64, .f32⟩
  | 82 => ⟨S64x8192x64, .f32⟩
  | 83 => ⟨S_, .f32⟩
  | 84 => ⟨S64x8192x64, .f32⟩
  | 85 => ⟨S64x8192x64, .i1⟩
  | 86 => ⟨S64x8192x64, .f32⟩
  | 87 => ⟨S_, .f32⟩
  | 88 => ⟨S_, .f32⟩
  | 89 => ⟨S64x8192x64, .f32⟩
  | 90 => ⟨S64x8192x64, .f32⟩
  | 91 => ⟨S_, .f32⟩
  | 92 => ⟨S64x8192, .f32⟩
  | 93 => ⟨S_, .f32⟩
  | 94 => ⟨S64x8192, .f32⟩
  | 95 => ⟨S64x8192, .f32⟩
  | 96 => ⟨S64x8192x1, .f32⟩
  | 97 => ⟨S64x8192x64, .f32⟩
  | 98 => ⟨S64x8192x64, .f32⟩
  | 99 => ⟨S64x8192x64, .f32⟩
  | 100 => ⟨S_, .f32⟩
  | 101 => ⟨S64x8192, .f32⟩
  | 102 => ⟨S64x8192x1, .f32⟩
  | 103 => ⟨S64x8192x1, .f32⟩
  | 104 => ⟨S64x8192x64, .f32⟩
  | 105 => ⟨S64x8192x64, .f32⟩
  | 106 => ⟨S64, .i32⟩
  | 107 => ⟨S1x1x64, .i32⟩
  | 108 => ⟨S64x8192x1, .i32⟩
  | 109 => ⟨S64x8192x64, .i32⟩
  | 110 => ⟨S64x8192x64, .i32⟩
  | 111 => ⟨S64x8192x64, .i1⟩
  | 112 => ⟨S_, .f32⟩
  | 113 => ⟨S_, .f32⟩
  | 114 => ⟨S64x8192x64, .f32⟩
  | 115 => ⟨S64x8192x64, .f32⟩
  | 116 => ⟨S_, .f32⟩
  | 117 => ⟨S64x8192, .f32⟩
  | 118 => ⟨S_, .f32⟩
  | 119 => ⟨S64, .f32⟩
  | 120 => ⟨S64x8192, .f32⟩
  | 121 => ⟨S1x8192, .f32⟩
  | 122 => ⟨S64x8192, .f32⟩
  | 123 => ⟨S64x8192, .f32⟩
  | 124 => ⟨S_, .f32⟩
  | 125 => ⟨S64, .f32⟩
  | 126 => ⟨S64x8192, .f32⟩
  | 127 => ⟨S1x8192, .f32⟩
  | _ => ⟨S64x8192, .i32⟩

abbrev hbmTy0_4 (i : Nat) : BufTy := match i % 128 with
  | 0 => ⟨S64x8192, .f32⟩
  | 1 => ⟨S64x8192, .f32⟩
  | 2 => ⟨S_, .f32⟩
  | 3 => ⟨S64, .f32⟩
  | 4 => ⟨S_, .f32⟩
  | 5 => ⟨S64, .f32⟩
  | 6 => ⟨S64, .f32⟩
  | 7 => ⟨S64, .f32⟩
  | 8 => ⟨S64x8192, .f32⟩
  | 9 => ⟨S1x8192, .f32⟩
  | 10 => ⟨S64x8192, .f32⟩
  | 11 => ⟨S64x8192, .f32⟩
  | 12 => ⟨S_, .f32⟩
  | 13 => ⟨S64, .f32⟩
  | 14 => ⟨S64x8192, .f32⟩
  | 15 => ⟨S1x8192, .f32⟩
  | 16 => ⟨S64x8192, .f32⟩
  | 17 => ⟨S64x8192, .f32⟩
  | 18 => ⟨S_, .f32⟩
  | 19 => ⟨S64, .f32⟩
  | 20 => ⟨S_, .f32⟩
  | 21 => ⟨S64, .f32⟩
  | 22 => ⟨S64, .f32⟩
  | 23 => ⟨S64, .f32⟩
  | 24 => ⟨S64, .f32⟩
  | 25 => ⟨S64, .f32⟩
  | 26 => ⟨S64, .f32⟩
  | 27 => ⟨S64, .f32⟩
  | 28 => ⟨S64, .i1⟩
  | 29 => ⟨S64, .f32⟩
  | 30 => ⟨S64x8192, .f32⟩
  | 31 => ⟨S64x1, .f32⟩
  | 32 => ⟨S64x8192, .f32⟩
  | 33 => ⟨S64x8192, .f32⟩
  | 34 => ⟨S64x8192, .f32⟩
  | 35 => ⟨S64x1, .f32⟩
  | 36 => ⟨S_, .f32⟩
  | 37 => ⟨S64x1, .f32⟩
  | 38 => ⟨S64x1, .f32⟩
  | 39 => ⟨S64x8192, .f32⟩
  | 40 => ⟨S64x8192, .f32⟩
  | 41 => ⟨S64x8192, .f32⟩
  | 42 => ⟨S64x8192, .i32⟩
  | 43 => ⟨S1x64x8192x64, .f32⟩
  | 44 => ⟨S64x8192x64, .f32⟩
  | 45 => ⟨S1x64, .f32⟩
  | 46 => ⟨S64, .f32⟩
  | 47 => ⟨S64x8192, .f32⟩
  | 48 => ⟨S1x8192, .f32⟩
  | 49 => ⟨S64x8192, .f32⟩
  | 50 => ⟨S64x8192, .f32⟩
  | 51 => ⟨S_, .f32⟩
  | 52 => ⟨S64, .f32⟩
  | 53 => ⟨S64x8192, .f32⟩
  | 54 => ⟨S1x8192, .f32⟩
  | 55 => ⟨S64x8192, .f32⟩
  | 56 => ⟨S64x8192, .f32⟩
  | 57 => ⟨S_, .f32⟩
  | 58 => ⟨S64, .f32⟩
  | 59 => ⟨S_, .f32⟩
  | 60 => ⟨S64, .f32⟩
  | 61 => ⟨S64, .f32⟩
  | 62 => ⟨S64, .f32⟩
  | 63 => ⟨S_, .f32⟩
  | 64 => ⟨S_, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S64x8192, .f32⟩
  | 72 => ⟨S64x8192, .f32⟩
  | 73 => ⟨S64x8192, .f32⟩
  | 74 => ⟨S64x8192, .f32⟩
  | 75 => ⟨S64x8192, .f32⟩
  | 76 => ⟨S64x8192, .f32⟩
  | 77 => ⟨S64x8192, .f32⟩
  | 78 => ⟨S64x8192, .f32⟩
  | 79 => ⟨S64x8192, .f32⟩
  | 80 => ⟨S64x8192, .f32⟩
  | 81 => ⟨S64, .f32⟩
  | 82 => ⟨S1x1x64, .f32⟩
  | 83 => ⟨S64x8192, .f32⟩
  | 84 => ⟨S64x8192x1, .f32⟩
  | 85 => ⟨S64x8192x1, .f32⟩
  | 86 => ⟨S64x8192x64, .f32⟩
  | 87 => ⟨S64x8192x64, .f32⟩
  | 88 => ⟨S64x8192x64, .f32⟩
  | 89 => ⟨S64x8192x64, .f32⟩
  | 90 => ⟨S64x8192x64, .f32⟩
  | 91 => ⟨S64x8192x64, .f32⟩
  | 92 => ⟨S64x8192x64, .f32⟩
  | 93 => ⟨S64x8192x64, .f32⟩
  | 94 => ⟨S64x8192x64, .f32⟩
  | 95 => ⟨S_, .f32⟩
  | 96 => ⟨S64x8192x64, .f32⟩
  | 97 => ⟨S64x8192x64, .f32⟩
  | 98 => ⟨S64x8192x64, .f32⟩
  | 99 => ⟨S64x8192x64, .f32⟩
  | 100 => ⟨S64x8192x64, .f32⟩
  | 101 => ⟨S64x8192x64, .f32⟩
  | 102 => ⟨S_, .f32⟩
  | 103 => ⟨S64x8192x64, .f32⟩
  | 104 => ⟨S64x8192x64, .i1⟩
  | 105 => ⟨S64x8192x64, .f32⟩
  | 106 => ⟨S_, .f32⟩
  | 107 => ⟨S_, .f32⟩
  | 108 => ⟨S64x8192x64, .f32⟩
  | 109 => ⟨S64x8192x64, .f32⟩
  | 110 => ⟨S64x8192x64, .f32⟩
  | 111 => ⟨S64, .i32⟩
  | 112 => ⟨S1x1x64, .i32⟩
  | 113 => ⟨S_, .f32⟩
  | 114 => ⟨S64x8192, .f32⟩
  | 115 => ⟨S64x8192x1, .f32⟩
  | 116 => ⟨S64x8192x64, .f32⟩
  | 117 => ⟨S64x8192x64, .i1⟩
  | 118 => ⟨S_, .i32⟩
  | 119 => ⟨S_, .i32⟩
  | 120 => ⟨S64x8192x64, .i32⟩
  | 121 => ⟨S64x8192x64, .i32⟩
  | 122 => ⟨S64x8192x64, .i32⟩
  | 123 => ⟨S_, .i32⟩
  | 124 => ⟨S64x8192, .i32⟩
  | 125 => ⟨S_, .f32⟩
  | 126 => ⟨S64x8192, .f32⟩
  | 127 => ⟨S_, .f32⟩
  | _ => ⟨S64x8192, .i32⟩

abbrev hbmTy0_5 (i : Nat) : BufTy := match i % 128 with
  | 0 => ⟨S64x8192, .f32⟩
  | 1 => ⟨S64x8192, .f32⟩
  | 2 => ⟨S64x8192x1, .f32⟩
  | 3 => ⟨S64x8192x64, .f32⟩
  | 4 => ⟨S64x8192x64, .f32⟩
  | 5 => ⟨S64x8192x64, .f32⟩
  | 6 => ⟨S_, .f32⟩
  | 7 => ⟨S64x8192, .f32⟩
  | 8 => ⟨S64x8192x1, .f32⟩
  | 9 => ⟨S64x8192x1, .f32⟩
  | 10 => ⟨S64x8192x64, .f32⟩
  | 11 => ⟨S64x8192x64, .f32⟩
  | 12 => ⟨S64, .i32⟩
  | 13 => ⟨S1x1x64, .i32⟩
  | 14 => ⟨S64x8192x1, .i32⟩
  | 15 => ⟨S64x8192x64, .i32⟩
  | 16 => ⟨S64x8192x64, .i32⟩
  | 17 => ⟨S64x8192x64, .i1⟩
  | 18 => ⟨S_, .f32⟩
  | 19 => ⟨S_, .f32⟩
  | 20 => ⟨S64x8192x64, .f32⟩
  | 21 => ⟨S64x8192x64, .f32⟩
  | 22 => ⟨S_, .f32⟩
  | 23 => ⟨S64x8192, .f32⟩
  | 24 => ⟨S_, .f32⟩
  | 25 => ⟨S64, .f32⟩
  | 26 => ⟨S64x8192, .f32⟩
  | 27 => ⟨S1x8192, .f32⟩
  | 28 => ⟨S64x8192, .f32⟩
  | 29 => ⟨S64x8192, .f32⟩
  | 30 => ⟨S_, .f32⟩
  | 31 => ⟨S64, .f32⟩
  | 32 => ⟨S64x8192, .f32⟩
  | 33 => ⟨S1x8192, .f32⟩
  | 34 => ⟨S64x8192, .f32⟩
  | 35 => ⟨S64x8192, .f32⟩
  | 36 => ⟨S_, .f32⟩
  | 37 => ⟨S64, .f32⟩
  | 38 => ⟨S_, .f32⟩
  | 39 => ⟨S64, .f32⟩
  | 40 => ⟨S64, .f32⟩
  | 41 => ⟨S64, .f32⟩
  | 42 => ⟨S_, .f32⟩
  | 43 => ⟨S_, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S64x8192, .f32⟩
  | 51 => ⟨S64x8192, .f32⟩
  | 52 => ⟨S64x8192, .f32⟩
  | 53 => ⟨S64x8192, .f32⟩
  | 54 => ⟨S64x8192, .f32⟩
  | 55 => ⟨S64x8192, .f32⟩
  | 56 => ⟨S64x8192, .f32⟩
  | 57 => ⟨S64x8192, .f32⟩
  | 58 => ⟨S64x8192, .f32⟩
  | 59 => ⟨S64x8192, .f32⟩
  | 60 => ⟨S_, .f32⟩
  | 61 => ⟨S64x8192, .f32⟩
  | 62 => ⟨S64x8192, .f32⟩
  | 63 => ⟨S64, .f32⟩
  | 64 => ⟨S1x1x64, .f32⟩
  | 65 => ⟨S64x8192, .f32⟩
  | 66 => ⟨S64x8192x1, .f32⟩
  | 67 => ⟨S64x8192x1, .f32⟩
  | 68 => ⟨S64x8192x64, .f32⟩
  | 69 => ⟨S64x8192x64, .f32⟩
  | 70 => ⟨S64x8192x64, .f32⟩
  | 71 => ⟨S64x8192x64, .f32⟩
  | 72 => ⟨S64x8192x64, .f32⟩
  | 73 => ⟨S64x8192x64, .f32⟩
  | 74 => ⟨S64x8192x64, .f32⟩
  | 75 => ⟨S64x8192x64, .f32⟩
  | 76 => ⟨S64x8192x64, .f32⟩
  | 77 => ⟨S_, .f32⟩
  | 78 => ⟨S64x8192x64, .f32⟩
  | 79 => ⟨S64x8192x64, .f32⟩
  | 80 => ⟨S64x8192x64, .f32⟩
  | 81 => ⟨S64x8192x64, .f32⟩
  | 82 => ⟨S64x8192x64, .f32⟩
  | 83 => ⟨S64x8192x64, .f32⟩
  | 84 => ⟨S_, .f32⟩
  | 85 => ⟨S64x8192x64, .f32⟩
  | 86 => ⟨S64x8192x64, .i1⟩
  | 87 => ⟨S64x8192x64, .f32⟩
  | 88 => ⟨S_, .f32⟩
  | 89 => ⟨S_, .f32⟩
  | 90 => ⟨S64x8192x64, .f32⟩
  | 91 => ⟨S64x8192x64, .f32⟩
  | 92 => ⟨S_, .f32⟩
  | 93 => ⟨S64x8192, .f32⟩
  | 94 => ⟨S_, .f32⟩
  | 95 => ⟨S64x8192, .f32⟩
  | 96 => ⟨S64x8192, .f32⟩
  | 97 => ⟨S64x8192x1, .f32⟩
  | 98 => ⟨S64x8192x64, .f32⟩
  | 99 => ⟨S64x8192x64, .f32⟩
  | 100 => ⟨S64x8192x64, .f32⟩
  | 101 => ⟨S_, .f32⟩
  | 102 => ⟨S64x8192, .f32⟩
  | 103 => ⟨S64x8192x1, .f32⟩
  | 104 => ⟨S64x8192x1, .f32⟩
  | 105 => ⟨S64x8192x64, .f32⟩
  | 106 => ⟨S64x8192x64, .f32⟩
  | 107 => ⟨S64, .i32⟩
  | 108 => ⟨S1x1x64, .i32⟩
  | 109 => ⟨S64x8192x1, .i32⟩
  | 110 => ⟨S64x8192x64, .i32⟩
  | 111 => ⟨S64x8192x64, .i32⟩
  | 112 => ⟨S64x8192x64, .i1⟩
  | 113 => ⟨S_, .f32⟩
  | 114 => ⟨S_, .f32⟩
  | 115 => ⟨S64x8192x64, .f32⟩
  | 116 => ⟨S64x8192x64, .f32⟩
  | 117 => ⟨S_, .f32⟩
  | 118 => ⟨S64x8192, .f32⟩
  | 119 => ⟨S_, .f32⟩
  | 120 => ⟨S64, .f32⟩
  | 121 => ⟨S64x8192, .f32⟩
  | 122 => ⟨S1x8192, .f32⟩
  | 123 => ⟨S64x8192, .f32⟩
  | 124 => ⟨S64x8192, .f32⟩
  | 125 => ⟨S_, .f32⟩
  | 126 => ⟨S64, .f32⟩
  | 127 => ⟨S64x8192, .f32⟩
  | _ => ⟨S64x8192, .i32⟩

abbrev hbmTy0_6 (i : Nat) : BufTy := match i % 128 with
  | 0 => ⟨S1x8192, .f32⟩
  | 1 => ⟨S64x8192, .f32⟩
  | 2 => ⟨S64x8192, .f32⟩
  | 3 => ⟨S_, .f32⟩
  | 4 => ⟨S64, .f32⟩
  | 5 => ⟨S_, .f32⟩
  | 6 => ⟨S64, .f32⟩
  | 7 => ⟨S64, .f32⟩
  | 8 => ⟨S64, .f32⟩
  | 9 => ⟨S64x8192, .f32⟩
  | 10 => ⟨S1x8192, .f32⟩
  | 11 => ⟨S64x8192, .f32⟩
  | 12 => ⟨S64x8192, .f32⟩
  | 13 => ⟨S_, .f32⟩
  | 14 => ⟨S64, .f32⟩
  | 15 => ⟨S64x8192, .f32⟩
  | 16 => ⟨S1x8192, .f32⟩
  | 17 => ⟨S64x8192, .f32⟩
  | 18 => ⟨S64x8192, .f32⟩
  | 19 => ⟨S_, .f32⟩
  | 20 => ⟨S64, .f32⟩
  | 21 => ⟨S_, .f32⟩
  | 22 => ⟨S64, .f32⟩
  | 23 => ⟨S64, .f32⟩
  | 24 => ⟨S64, .f32⟩
  | 25 => ⟨S64, .f32⟩
  | 26 => ⟨S64, .f32⟩
  | 27 => ⟨S64, .f32⟩
  | 28 => ⟨S64, .f32⟩
  | 29 => ⟨S64, .i1⟩
  | 30 => ⟨S64, .f32⟩
  | 31 => ⟨S64x8192, .f32⟩
  | 32 => ⟨S64x1, .f32⟩
  | 33 => ⟨S64x8192, .f32⟩
  | 34 => ⟨S64x8192, .f32⟩
  | 35 => ⟨S64x8192, .f32⟩
  | 36 => ⟨S64x1, .f32⟩
  | 37 => ⟨S_, .f32⟩
  | 38 => ⟨S64x1, .f32⟩
  | 39 => ⟨S64x1, .f32⟩
  | 40 => ⟨S64x8192, .f32⟩
  | 41 => ⟨S64x8192, .f32⟩
  | 42 => ⟨S64x8192, .f32⟩
  | 43 => ⟨S64x8192, .i32⟩
  | _ => ⟨S64x8192, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x8192, .i32⟩

abbrev bufTy : (tb : Table) → Fin (tcTables nBuf tb) → BufTy
  | .hbm, ⟨i, _⟩ => hbmTy i
  | _, _ => ⟨S64x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_7 : Ref sig .tc := ⟨.hbm, 24, rfl⟩
abbrev main_v13 : Ref sig .tc := ⟨.hbm, 25, rfl⟩
abbrev main_v14 : Ref sig .tc := ⟨.hbm, 26, rfl⟩
abbrev main_c_8 : Ref sig .tc := ⟨.hbm, 27, rfl⟩
abbrev main_v15 : Ref sig .tc := ⟨.hbm, 28, rfl⟩
abbrev main_c_9 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_10 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_11 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_12 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_13 : Ref sig .tc := ⟨.hbm, 53, rfl⟩
abbrev main_v36 : Ref sig .tc := ⟨.hbm, 54, rfl⟩
abbrev main_v37 : Ref sig .tc := ⟨.hbm, 55, rfl⟩
abbrev main_c_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_15 : Ref sig .tc := ⟨.hbm, 62, rfl⟩
abbrev main_v43 : Ref sig .tc := ⟨.hbm, 63, rfl⟩
abbrev main_v44 : Ref sig .tc := ⟨.hbm, 64, rfl⟩
abbrev main_c_16 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_17 : Ref sig .tc := ⟨.hbm, 71, rfl⟩
abbrev main_v50 : Ref sig .tc := ⟨.hbm, 72, rfl⟩
abbrev main_v51 : Ref sig .tc := ⟨.hbm, 73, rfl⟩
abbrev main_c_18 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_19 : Ref sig .tc := ⟨.hbm, 80, rfl⟩
abbrev main_v57 : Ref sig .tc := ⟨.hbm, 81, rfl⟩
abbrev main_v58 : Ref sig .tc := ⟨.hbm, 82, rfl⟩
abbrev main_c_20 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_21 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_22 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_24 : Ref sig .tc := ⟨.hbm, 105, rfl⟩
abbrev main_v77 : Ref sig .tc := ⟨.hbm, 106, rfl⟩
abbrev main_v78 : Ref sig .tc := ⟨.hbm, 107, rfl⟩
abbrev main_c_25 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_26 : Ref sig .tc := ⟨.hbm, 114, rfl⟩
abbrev main_v84 : Ref sig .tc := ⟨.hbm, 115, rfl⟩
abbrev main_v85 : Ref sig .tc := ⟨.hbm, 116, rfl⟩
abbrev main_c_27 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_28 : Ref sig .tc := ⟨.hbm, 123, rfl⟩
abbrev main_v91 : Ref sig .tc := ⟨.hbm, 124, rfl⟩
abbrev main_v92 : Ref sig .tc := ⟨.hbm, 125, rfl⟩
abbrev main_c_29 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_30 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_31 : Ref sig .tc := ⟨.hbm, 139, rfl⟩
abbrev main_v104 : Ref sig .tc := ⟨.hbm, 140, rfl⟩
abbrev main_v105 : Ref sig .tc := ⟨.hbm, 141, rfl⟩
abbrev main_c_32 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_33 : Ref sig .tc := ⟨.hbm, 148, rfl⟩
abbrev main_v111 : Ref sig .tc := ⟨.hbm, 149, rfl⟩
abbrev main_v112 : Ref sig .tc := ⟨.hbm, 150, rfl⟩
abbrev main_c_34 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_35 : Ref sig .tc := ⟨.hbm, 157, rfl⟩
abbrev main_v118 : Ref sig .tc := ⟨.hbm, 158, rfl⟩
abbrev main_v119 : Ref sig .tc := ⟨.hbm, 159, rfl⟩
abbrev main_c_36 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_37 : Ref sig .tc := ⟨.hbm, 166, rfl⟩
abbrev main_v125 : Ref sig .tc := ⟨.hbm, 167, rfl⟩
abbrev main_v126 : Ref sig .tc := ⟨.hbm, 168, rfl⟩
abbrev main_c_38 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_39 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_40 : Ref sig .tc := ⟨.hbm, 182, rfl⟩
abbrev main_v138 : Ref sig .tc := ⟨.hbm, 183, rfl⟩
abbrev main_v139 : Ref sig .tc := ⟨.hbm, 184, rfl⟩
abbrev main_c_41 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_42 : Ref sig .tc := ⟨.hbm, 191, rfl⟩
abbrev main_v145 : Ref sig .tc := ⟨.hbm, 192, rfl⟩
abbrev main_v146 : Ref sig .tc := ⟨.hbm, 193, rfl⟩
abbrev main_c_43 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_c_44 : Ref sig .tc := ⟨.hbm, 200, rfl⟩
abbrev main_v152 : Ref sig .tc := ⟨.hbm, 201, rfl⟩
abbrev main_v153 : Ref sig .tc := ⟨.hbm, 202, rfl⟩
abbrev main_c_45 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_c_46 : Ref sig .tc := ⟨.hbm, 209, rfl⟩
abbrev main_v159 : Ref sig .tc := ⟨.hbm, 210, rfl⟩
abbrev main_v160 : Ref sig .tc := ⟨.hbm, 211, rfl⟩
abbrev main_c_47 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_c_48 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_c_49 : Ref sig .tc := ⟨.hbm, 225, rfl⟩
abbrev main_v172 : Ref sig .tc := ⟨.hbm, 226, rfl⟩
abbrev main_v173 : Ref sig .tc := ⟨.hbm, 227, rfl⟩
abbrev main_c_50 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_c_51 : Ref sig .tc := ⟨.hbm, 234, rfl⟩
abbrev main_v179 : Ref sig .tc := ⟨.hbm, 235, rfl⟩
abbrev main_v180 : Ref sig .tc := ⟨.hbm, 236, rfl⟩
abbrev main_c_52 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_c_53 : Ref sig .tc := ⟨.hbm, 243, rfl⟩
abbrev main_v186 : Ref sig .tc := ⟨.hbm, 244, rfl⟩
abbrev main_v187 : Ref sig .tc := ⟨.hbm, 245, rfl⟩
abbrev main_c_54 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_c_55 : Ref sig .tc := ⟨.hbm, 252, rfl⟩
abbrev main_v193 : Ref sig .tc := ⟨.hbm, 253, rfl⟩
abbrev main_v194 : Ref sig .tc := ⟨.hbm, 254, rfl⟩
abbrev main_c_56 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_c_57 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_c_58 : Ref sig .tc := ⟨.hbm, 269, rfl⟩
abbrev main_v207 : Ref sig .tc := ⟨.hbm, 270, rfl⟩
abbrev main_c_59 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_cst : Ref sig .tc := ⟨.hbm, 276, rfl⟩
abbrev main_v212 : Ref sig .tc := ⟨.hbm, 277, rfl⟩
abbrev main_v213 : Ref sig .tc := ⟨.hbm, 278, rfl⟩
abbrev main_cst_60 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_c_61 : Ref sig .tc := ⟨.hbm, 288, rfl⟩
abbrev main_v222 : Ref sig .tc := ⟨.hbm, 289, rfl⟩
abbrev main_c_62 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_cst_63 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_cst_64 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_cst_65 : Ref sig .tc := ⟨.hbm, 312, rfl⟩
abbrev main_v242 : Ref sig .tc := ⟨.hbm, 313, rfl⟩
abbrev main_cst_66 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_cst_67 : Ref sig .tc := ⟨.hbm, 318, rfl⟩
abbrev main_v246 : Ref sig .tc := ⟨.hbm, 319, rfl⟩
abbrev main_cst_68 : Ref sig .tc := ⟨.hbm, 320, rfl⟩
abbrev main_v247 : Ref sig .tc := ⟨.hbm, 321, rfl⟩
abbrev main_v248 : Ref sig .tc := ⟨.hbm, 322, rfl⟩
abbrev main_cst_69 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_cst_70 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_cst_71 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_cst_72 : Ref sig .tc := ⟨.hbm, 361, rfl⟩
abbrev main_call0_v0 : Ref sig .tc := ⟨.hbm, 362, rfl⟩
abbrev main_call0_v1 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_cst_73 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_c_74 : Ref sig .tc := ⟨.hbm, 373, rfl⟩
abbrev main_call1_v0 : Ref sig .tc := ⟨.hbm, 374, rfl⟩
abbrev main_call1_v1 : Ref sig .tc := ⟨.hbm, 375, rfl⟩
abbrev main_call1_v2 : Ref sig .tc := ⟨.hbm, 376, rfl⟩
abbrev main_v292 : Ref sig .tc := ⟨.hbm, 377, rfl⟩
abbrev main_c_75 : Ref sig .tc := ⟨.hbm, 378, rfl⟩
abbrev main_v293 : Ref sig .tc := ⟨.hbm, 379, rfl⟩
abbrev main_call2_cst : Ref sig .tc := ⟨.hbm, 380, rfl⟩
abbrev main_call2_v0 : Ref sig .tc := ⟨.hbm, 381, rfl⟩
abbrev main_call2_cst_0 : Ref sig .tc := ⟨.hbm, 382, rfl⟩
abbrev main_call2_v1 : Ref sig .tc := ⟨.hbm, 383, rfl⟩
abbrev main_call2_v2 : Ref sig .tc := ⟨.hbm, 384, rfl⟩
abbrev main_call2_v3 : Ref sig .tc := ⟨.hbm, 385, rfl⟩
abbrev main_call2_v4 : Ref sig .tc := ⟨.hbm, 386, rfl⟩
abbrev main_call2_v5 : Ref sig .tc := ⟨.hbm, 387, rfl⟩
abbrev main_call2_v6 : Ref sig .tc := ⟨.hbm, 388, rfl⟩
abbrev main_call2_cst_1 : Ref sig .tc := ⟨.hbm, 389, rfl⟩
abbrev main_call2_v7 : Ref sig .tc := ⟨.hbm, 390, rfl⟩
abbrev main_call2_v8 : Ref sig .tc := ⟨.hbm, 391, rfl⟩
abbrev main_call2_v9 : Ref sig .tc := ⟨.hbm, 392, rfl⟩
abbrev main_call2_v10 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_v297 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_cst_76 : Ref sig .tc := ⟨.hbm, 401, rfl⟩
abbrev main_call3_v0 : Ref sig .tc := ⟨.hbm, 402, rfl⟩
abbrev main_call3_v1 : Ref sig .tc := ⟨.hbm, 403, rfl⟩
abbrev main_v301 : Ref sig .tc := ⟨.hbm, 404, rfl⟩
abbrev main_cst_77 : Ref sig .tc := ⟨.hbm, 405, rfl⟩
abbrev main_v302 : Ref sig .tc := ⟨.hbm, 406, rfl⟩
abbrev main_cst_78 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_v307 : Ref sig .tc := ⟨.hbm, 412, rfl⟩
abbrev main_cst_79 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_cst_80 : Ref sig .tc := ⟨.hbm, 419, rfl⟩
abbrev main_v313 : Ref sig .tc := ⟨.hbm, 420, rfl⟩
abbrev main_cst_81 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_cst_82 : Ref sig .tc := ⟨.hbm, 425, rfl⟩
abbrev main_v317 : Ref sig .tc := ⟨.hbm, 426, rfl⟩
abbrev main_cst_83 : Ref sig .tc := ⟨.hbm, 427, rfl⟩
abbrev main_v318 : Ref sig .tc := ⟨.hbm, 428, rfl⟩
abbrev main_v319 : Ref sig .tc := ⟨.hbm, 429, rfl⟩
abbrev main_cst_84 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_cst_85 : Ref sig .tc := ⟨.hbm, 443, rfl⟩
abbrev main_v332 : Ref sig .tc := ⟨.hbm, 444, rfl⟩
abbrev main_v333 : Ref sig .tc := ⟨.hbm, 445, rfl⟩
abbrev main_v334 : Ref sig .tc := ⟨.hbm, 446, rfl⟩
abbrev main_v335 : Ref sig .tc := ⟨.hbm, 447, rfl⟩
abbrev main_v336 : Ref sig .tc := ⟨.hbm, 448, rfl⟩
abbrev main_v337 : Ref sig .tc := ⟨.hbm, 449, rfl⟩
abbrev main_v338 : Ref sig .tc := ⟨.hbm, 450, rfl⟩
abbrev main_v339 : Ref sig .tc := ⟨.hbm, 451, rfl⟩
abbrev main_v340 : Ref sig .tc := ⟨.hbm, 452, rfl⟩
abbrev main_v341 : Ref sig .tc := ⟨.hbm, 453, rfl⟩
abbrev main_v342 : Ref sig .tc := ⟨.hbm, 454, rfl⟩
abbrev main_v343 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_v347 : Ref sig .tc := ⟨.hbm, 459, rfl⟩
abbrev main_cst_86 : Ref sig .tc := ⟨.hbm, 460, rfl⟩
abbrev main_v348 : Ref sig .tc := ⟨.hbm, 461, rfl⟩
abbrev main_v349 : Ref sig .tc := ⟨.hbm, 462, rfl⟩
abbrev main_v350 : Ref sig .tc := ⟨.hbm, 463, rfl⟩
abbrev main_v351 : Ref sig .tc := ⟨.hbm, 464, rfl⟩
abbrev main_v352 : Ref sig .tc := ⟨.hbm, 465, rfl⟩
abbrev main_v353 : Ref sig .tc := ⟨.hbm, 466, rfl⟩
abbrev main_cst_87 : Ref sig .tc := ⟨.hbm, 467, rfl⟩
abbrev main_v354 : Ref sig .tc := ⟨.hbm, 468, rfl⟩
abbrev main_v355 : Ref sig .tc := ⟨.hbm, 469, rfl⟩
abbrev main_v356 : Ref sig .tc := ⟨.hbm, 470, rfl⟩
abbrev main_cst_88 : Ref sig .tc := ⟨.hbm, 471, rfl⟩
abbrev main_call4_v0 : Ref sig .tc := ⟨.hbm, 472, rfl⟩
abbrev main_call4_v1 : Ref sig .tc := ⟨.hbm, 473, rfl⟩
abbrev main_v357 : Ref sig .tc := ⟨.hbm, 474, rfl⟩
abbrev main_call5_cst : Ref sig .tc := ⟨.hbm, 475, rfl⟩
abbrev main_call5_v0 : Ref sig .tc := ⟨.hbm, 476, rfl⟩
abbrev main_call5_cst_0 : Ref sig .tc := ⟨.hbm, 477, rfl⟩
abbrev main_call5_v1 : Ref sig .tc := ⟨.hbm, 478, rfl⟩
abbrev main_call5_v2 : Ref sig .tc := ⟨.hbm, 479, rfl⟩
abbrev main_call5_v3 : Ref sig .tc := ⟨.hbm, 480, rfl⟩
abbrev main_call5_v4 : Ref sig .tc := ⟨.hbm, 481, rfl⟩
abbrev main_call5_v5 : Ref sig .tc := ⟨.hbm, 482, rfl⟩
abbrev main_call5_v6 : Ref sig .tc := ⟨.hbm, 483, rfl⟩
abbrev main_call5_cst_1 : Ref sig .tc := ⟨.hbm, 484, rfl⟩
abbrev main_call5_v7 : Ref sig .tc := ⟨.hbm, 485, rfl⟩
abbrev main_call5_v8 : Ref sig .tc := ⟨.hbm, 486, rfl⟩
abbrev main_call5_v9 : Ref sig .tc := ⟨.hbm, 487, rfl⟩
abbrev main_call5_v10 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_v364 : Ref sig .tc := ⟨.hbm, 495, rfl⟩
abbrev main_cst_89 : Ref sig .tc := ⟨.hbm, 496, rfl⟩
abbrev main_call6_v0 : Ref sig .tc := ⟨.hbm, 497, rfl⟩
abbrev main_call6_v1 : Ref sig .tc := ⟨.hbm, 498, rfl⟩
abbrev main_v365 : Ref sig .tc := ⟨.hbm, 499, rfl⟩
abbrev main_cst_90 : Ref sig .tc := ⟨.hbm, 500, rfl⟩
abbrev main_v366 : Ref sig .tc := ⟨.hbm, 501, rfl⟩
abbrev main_cst_91 : Ref sig .tc := ⟨.hbm, 502, rfl⟩
abbrev main_v367 : Ref sig .tc := ⟨.hbm, 503, rfl⟩
abbrev main_v368 : Ref sig .tc := ⟨.hbm, 504, rfl⟩
abbrev main_v369 : Ref sig .tc := ⟨.hbm, 505, rfl⟩
abbrev main_v370 : Ref sig .tc := ⟨.hbm, 506, rfl⟩
abbrev main_v371 : Ref sig .tc := ⟨.hbm, 507, rfl⟩
abbrev main_cst_92 : Ref sig .tc := ⟨.hbm, 508, rfl⟩
abbrev main_v372 : Ref sig .tc := ⟨.hbm, 509, rfl⟩
abbrev main_v373 : Ref sig .tc := ⟨.hbm, 510, rfl⟩
abbrev main_v374 : Ref sig .tc := ⟨.hbm, 511, rfl⟩
abbrev main_v375 : Ref sig .tc := ⟨.hbm, 512, rfl⟩
abbrev main_v376 : Ref sig .tc := ⟨.hbm, 513, rfl⟩
abbrev main_cst_93 : Ref sig .tc := ⟨.hbm, 514, rfl⟩
abbrev main_v377 : Ref sig .tc := ⟨.hbm, 515, rfl⟩
abbrev main_cst_94 : Ref sig .tc := ⟨.hbm, 516, rfl⟩
abbrev main_v378 : Ref sig .tc := ⟨.hbm, 517, rfl⟩
abbrev main_v379 : Ref sig .tc := ⟨.hbm, 518, rfl⟩
abbrev main_v380 : Ref sig .tc := ⟨.hbm, 519, rfl⟩
abbrev main_v381 : Ref sig .tc := ⟨.hbm, 520, rfl⟩
abbrev main_v382 : Ref sig .tc := ⟨.hbm, 521, rfl⟩
abbrev main_v383 : Ref sig .tc := ⟨.hbm, 522, rfl⟩
abbrev main_v384 : Ref sig .tc := ⟨.hbm, 523, rfl⟩
abbrev main_cst_95 : Ref sig .tc := ⟨.hbm, 524, rfl⟩
abbrev main_v385 : Ref sig .tc := ⟨.hbm, 525, rfl⟩
abbrev main_v386 : Ref sig .tc := ⟨.hbm, 526, rfl⟩
abbrev main_v387 : Ref sig .tc := ⟨.hbm, 527, rfl⟩
abbrev main_v388 : Ref sig .tc := ⟨.hbm, 528, rfl⟩
abbrev main_v389 : Ref sig .tc := ⟨.hbm, 529, rfl⟩
abbrev main_cst_96 : Ref sig .tc := ⟨.hbm, 530, rfl⟩
abbrev main_v390 : Ref sig .tc := ⟨.hbm, 531, rfl⟩
abbrev main_cst_97 : Ref sig .tc := ⟨.hbm, 532, rfl⟩
abbrev main_v391 : Ref sig .tc := ⟨.hbm, 533, rfl⟩
abbrev main_v392 : Ref sig .tc := ⟨.hbm, 534, rfl⟩
abbrev main_v393 : Ref sig .tc := ⟨.hbm, 535, rfl⟩
abbrev main_v394 : Ref sig .tc := ⟨.hbm, 536, rfl⟩
abbrev main_v395 : Ref sig .tc := ⟨.hbm, 537, rfl⟩
abbrev main_v396 : Ref sig .tc := ⟨.hbm, 538, rfl⟩
abbrev main_v397 : Ref sig .tc := ⟨.hbm, 539, rfl⟩
abbrev main_v398 : Ref sig .tc := ⟨.hbm, 540, rfl⟩
abbrev main_v399 : Ref sig .tc := ⟨.hbm, 541, rfl⟩
abbrev main_v400 : Ref sig .tc := ⟨.hbm, 542, rfl⟩
abbrev main_v401 : Ref sig .tc := ⟨.hbm, 543, rfl⟩
abbrev main_v402 : Ref sig .tc := ⟨.hbm, 544, rfl⟩
abbrev main_v403 : Ref sig .tc := ⟨.hbm, 545, rfl⟩
abbrev main_v404 : Ref sig .tc := ⟨.hbm, 546, rfl⟩
abbrev main_v405 : Ref sig .tc := ⟨.hbm, 547, rfl⟩
abbrev main_cst_98 : Ref sig .tc := ⟨.hbm, 548, rfl⟩
abbrev main_v406 : Ref sig .tc := ⟨.hbm, 549, rfl⟩
abbrev main_v407 : Ref sig .tc := ⟨.hbm, 550, rfl⟩
abbrev main_v408 : Ref sig .tc := ⟨.hbm, 551, rfl⟩
abbrev main_v409 : Ref sig .tc := ⟨.hbm, 552, rfl⟩
abbrev main_v410 : Ref sig .tc := ⟨.hbm, 553, rfl⟩
abbrev main_v411 : Ref sig .tc := ⟨.hbm, 554, rfl⟩
abbrev main_v412 : Ref sig .tc := ⟨.hbm, 555, rfl⟩
abbrev main_v413 : Ref sig .tc := ⟨.hbm, 556, rfl⟩
abbrev main_v414 : Ref sig .tc := ⟨.hbm, 557, rfl⟩
abbrev main_v415 : Ref sig .tc := ⟨.hbm, 558, rfl⟩
abbrev main_v416 : Ref sig .tc := ⟨.hbm, 559, rfl⟩
abbrev main_v417 : Ref sig .tc := ⟨.hbm, 560, rfl⟩
abbrev main_v418 : Ref sig .tc := ⟨.hbm, 561, rfl⟩
abbrev main_v419 : Ref sig .tc := ⟨.hbm, 562, rfl⟩
abbrev main_cst_99 : Ref sig .tc := ⟨.hbm, 563, rfl⟩
abbrev main_v420 : Ref sig .tc := ⟨.hbm, 564, rfl⟩
abbrev main_v421 : Ref sig .tc := ⟨.hbm, 565, rfl⟩
abbrev main_v422 : Ref sig .tc := ⟨.hbm, 566, rfl⟩
abbrev main_v423 : Ref sig .tc := ⟨.hbm, 567, rfl⟩
abbrev main_v424 : Ref sig .tc := ⟨.hbm, 568, rfl⟩
abbrev main_cst_100 : Ref sig .tc := ⟨.hbm, 569, rfl⟩
abbrev main_v425 : Ref sig .tc := ⟨.hbm, 570, rfl⟩
abbrev main_cst_101 : Ref sig .tc := ⟨.hbm, 571, rfl⟩
abbrev main_v426 : Ref sig .tc := ⟨.hbm, 572, rfl⟩
abbrev main_v427 : Ref sig .tc := ⟨.hbm, 573, rfl⟩
abbrev main_v428 : Ref sig .tc := ⟨.hbm, 574, rfl⟩
abbrev main_cst_102 : Ref sig .tc := ⟨.hbm, 575, rfl⟩
abbrev main_v429 : Ref sig .tc := ⟨.hbm, 576, rfl⟩
abbrev main_cst_103 : Ref sig .tc := ⟨.hbm, 577, rfl⟩
abbrev main_v430 : Ref sig .tc := ⟨.hbm, 578, rfl⟩
abbrev main_v431 : Ref sig .tc := ⟨.hbm, 579, rfl⟩
abbrev main_cst_104 : Ref sig .tc := ⟨.hbm, 580, rfl⟩
abbrev main_v432 : Ref sig .tc := ⟨.hbm, 581, rfl⟩
abbrev main_v433 : Ref sig .tc := ⟨.hbm, 582, rfl⟩
abbrev main_v434 : Ref sig .tc := ⟨.hbm, 583, rfl⟩
abbrev main_v435 : Ref sig .tc := ⟨.hbm, 584, rfl⟩
abbrev main_v436 : Ref sig .tc := ⟨.hbm, 585, rfl⟩
abbrev main_v437 : Ref sig .tc := ⟨.hbm, 586, rfl⟩
abbrev main_v438 : Ref sig .tc := ⟨.hbm, 587, rfl⟩
abbrev main_v439 : Ref sig .tc := ⟨.hbm, 588, rfl⟩
abbrev main_v440 : Ref sig .tc := ⟨.hbm, 589, rfl⟩
abbrev main_v441 : Ref sig .tc := ⟨.hbm, 590, rfl⟩
abbrev main_v442 : Ref sig .tc := ⟨.hbm, 591, rfl⟩
abbrev main_v443 : Ref sig .tc := ⟨.hbm, 592, rfl⟩
abbrev main_v444 : Ref sig .tc := ⟨.hbm, 593, rfl⟩
abbrev main_v445 : Ref sig .tc := ⟨.hbm, 594, rfl⟩
abbrev main_v446 : Ref sig .tc := ⟨.hbm, 595, rfl⟩
abbrev main_v447 : Ref sig .tc := ⟨.hbm, 596, rfl⟩
abbrev main_v448 : Ref sig .tc := ⟨.hbm, 597, rfl⟩
abbrev main_v449 : Ref sig .tc := ⟨.hbm, 598, rfl⟩
abbrev main_v450 : Ref sig .tc := ⟨.hbm, 599, rfl⟩
abbrev main_v451 : Ref sig .tc := ⟨.hbm, 600, rfl⟩
abbrev main_v452 : Ref sig .tc := ⟨.hbm, 601, rfl⟩
abbrev main_v453 : Ref sig .tc := ⟨.hbm, 602, rfl⟩
abbrev main_v454 : Ref sig .tc := ⟨.hbm, 603, rfl⟩
abbrev main_v455 : Ref sig .tc := ⟨.hbm, 604, rfl⟩
abbrev main_v456 : Ref sig .tc := ⟨.hbm, 605, rfl⟩
abbrev main_v457 : Ref sig .tc := ⟨.hbm, 606, rfl⟩
abbrev main_cst_105 : Ref sig .tc := ⟨.hbm, 607, rfl⟩
abbrev main_v458 : Ref sig .tc := ⟨.hbm, 608, rfl⟩
abbrev main_v459 : Ref sig .tc := ⟨.hbm, 609, rfl⟩
abbrev main_v460 : Ref sig .tc := ⟨.hbm, 610, rfl⟩
abbrev main_v461 : Ref sig .tc := ⟨.hbm, 611, rfl⟩
abbrev main_v462 : Ref sig .tc := ⟨.hbm, 612, rfl⟩
abbrev main_v463 : Ref sig .tc := ⟨.hbm, 613, rfl⟩
abbrev main_cst_106 : Ref sig .tc := ⟨.hbm, 614, rfl⟩
abbrev main_v464 : Ref sig .tc := ⟨.hbm, 615, rfl⟩
abbrev main_v465 : Ref sig .tc := ⟨.hbm, 616, rfl⟩
abbrev main_v466 : Ref sig .tc := ⟨.hbm, 617, rfl⟩
abbrev main_cst_107 : Ref sig .tc := ⟨.hbm, 618, rfl⟩
abbrev main_call7_v0 : Ref sig .tc := ⟨.hbm, 619, rfl⟩
abbrev main_call7_v1 : Ref sig .tc := ⟨.hbm, 620, rfl⟩
abbrev main_v467 : Ref sig .tc := ⟨.hbm, 621, rfl⟩
abbrev main_v468 : Ref sig .tc := ⟨.hbm, 622, rfl⟩
abbrev main_v469 : Ref sig .tc := ⟨.hbm, 623, rfl⟩
abbrev main_v470 : Ref sig .tc := ⟨.hbm, 624, rfl⟩
abbrev main_cst_108 : Ref sig .tc := ⟨.hbm, 625, rfl⟩
abbrev main_v471 : Ref sig .tc := ⟨.hbm, 626, rfl⟩
abbrev main_v472 : Ref sig .tc := ⟨.hbm, 627, rfl⟩
abbrev main_v473 : Ref sig .tc := ⟨.hbm, 628, rfl⟩
abbrev main_v474 : Ref sig .tc := ⟨.hbm, 629, rfl⟩
abbrev main_c_109 : Ref sig .tc := ⟨.hbm, 630, rfl⟩
abbrev main_call8_v0 : Ref sig .tc := ⟨.hbm, 631, rfl⟩
abbrev main_call8_v1 : Ref sig .tc := ⟨.hbm, 632, rfl⟩
abbrev main_call8_v2 : Ref sig .tc := ⟨.hbm, 633, rfl⟩
abbrev main_v475 : Ref sig .tc := ⟨.hbm, 634, rfl⟩
abbrev main_c_110 : Ref sig .tc := ⟨.hbm, 635, rfl⟩
abbrev main_v476 : Ref sig .tc := ⟨.hbm, 636, rfl⟩
abbrev main_call9_cst : Ref sig .tc := ⟨.hbm, 637, rfl⟩
abbrev main_call9_v0 : Ref sig .tc := ⟨.hbm, 638, rfl⟩
abbrev main_call9_cst_0 : Ref sig .tc := ⟨.hbm, 639, rfl⟩
abbrev main_call9_v1 : Ref sig .tc := ⟨.hbm, 640, rfl⟩
abbrev main_call9_v2 : Ref sig .tc := ⟨.hbm, 641, rfl⟩
abbrev main_call9_v3 : Ref sig .tc := ⟨.hbm, 642, rfl⟩
abbrev main_call9_v4 : Ref sig .tc := ⟨.hbm, 643, rfl⟩
abbrev main_call9_v5 : Ref sig .tc := ⟨.hbm, 644, rfl⟩
abbrev main_call9_v6 : Ref sig .tc := ⟨.hbm, 645, rfl⟩
abbrev main_call9_cst_1 : Ref sig .tc := ⟨.hbm, 646, rfl⟩
abbrev main_call9_v7 : Ref sig .tc := ⟨.hbm, 647, rfl⟩
abbrev main_call9_v8 : Ref sig .tc := ⟨.hbm, 648, rfl⟩
abbrev main_call9_v9 : Ref sig .tc := ⟨.hbm, 649, rfl⟩
abbrev main_call9_v10 : Ref sig .tc := ⟨.hbm, 650, rfl⟩
abbrev main_v477 : Ref sig .tc := ⟨.hbm, 651, rfl⟩
abbrev main_v478 : Ref sig .tc := ⟨.hbm, 652, rfl⟩
abbrev main_v479 : Ref sig .tc := ⟨.hbm, 653, rfl⟩
abbrev main_v480 : Ref sig .tc := ⟨.hbm, 654, rfl⟩
abbrev main_v481 : Ref sig .tc := ⟨.hbm, 655, rfl⟩
abbrev main_v482 : Ref sig .tc := ⟨.hbm, 656, rfl⟩
abbrev main_v483 : Ref sig .tc := ⟨.hbm, 657, rfl⟩
abbrev main_cst_111 : Ref sig .tc := ⟨.hbm, 658, rfl⟩
abbrev main_call10_v0 : Ref sig .tc := ⟨.hbm, 659, rfl⟩
abbrev main_call10_v1 : Ref sig .tc := ⟨.hbm, 660, rfl⟩
abbrev main_v484 : Ref sig .tc := ⟨.hbm, 661, rfl⟩
abbrev main_cst_112 : Ref sig .tc := ⟨.hbm, 662, rfl⟩
abbrev main_v485 : Ref sig .tc := ⟨.hbm, 663, rfl⟩
abbrev main_cst_113 : Ref sig .tc := ⟨.hbm, 664, rfl⟩
abbrev main_v486 : Ref sig .tc := ⟨.hbm, 665, rfl⟩
abbrev main_v487 : Ref sig .tc := ⟨.hbm, 666, rfl⟩
abbrev main_v488 : Ref sig .tc := ⟨.hbm, 667, rfl⟩
abbrev main_v489 : Ref sig .tc := ⟨.hbm, 668, rfl⟩
abbrev main_v490 : Ref sig .tc := ⟨.hbm, 669, rfl⟩
abbrev main_cst_114 : Ref sig .tc := ⟨.hbm, 670, rfl⟩
abbrev main_v491 : Ref sig .tc := ⟨.hbm, 671, rfl⟩
abbrev main_v492 : Ref sig .tc := ⟨.hbm, 672, rfl⟩
abbrev main_v493 : Ref sig .tc := ⟨.hbm, 673, rfl⟩
abbrev main_v494 : Ref sig .tc := ⟨.hbm, 674, rfl⟩
abbrev main_v495 : Ref sig .tc := ⟨.hbm, 675, rfl⟩
abbrev main_cst_115 : Ref sig .tc := ⟨.hbm, 676, rfl⟩
abbrev main_v496 : Ref sig .tc := ⟨.hbm, 677, rfl⟩
abbrev main_cst_116 : Ref sig .tc := ⟨.hbm, 678, rfl⟩
abbrev main_v497 : Ref sig .tc := ⟨.hbm, 679, rfl⟩
abbrev main_v498 : Ref sig .tc := ⟨.hbm, 680, rfl⟩
abbrev main_v499 : Ref sig .tc := ⟨.hbm, 681, rfl⟩
abbrev main_cst_117 : Ref sig .tc := ⟨.hbm, 682, rfl⟩
abbrev main_v500 : Ref sig .tc := ⟨.hbm, 683, rfl⟩
abbrev main_cst_118 : Ref sig .tc := ⟨.hbm, 684, rfl⟩
abbrev main_v501 : Ref sig .tc := ⟨.hbm, 685, rfl⟩
abbrev main_v502 : Ref sig .tc := ⟨.hbm, 686, rfl⟩
abbrev main_cst_119 : Ref sig .tc := ⟨.hbm, 687, rfl⟩
abbrev main_v503 : Ref sig .tc := ⟨.hbm, 688, rfl⟩
abbrev main_v504 : Ref sig .tc := ⟨.hbm, 689, rfl⟩
abbrev main_v505 : Ref sig .tc := ⟨.hbm, 690, rfl⟩
abbrev main_v506 : Ref sig .tc := ⟨.hbm, 691, rfl⟩
abbrev main_v507 : Ref sig .tc := ⟨.hbm, 692, rfl⟩
abbrev main_v508 : Ref sig .tc := ⟨.hbm, 693, rfl⟩
abbrev main_v509 : Ref sig .tc := ⟨.hbm, 694, rfl⟩
abbrev main_v510 : Ref sig .tc := ⟨.hbm, 695, rfl⟩
abbrev main_v511 : Ref sig .tc := ⟨.hbm, 696, rfl⟩
abbrev main_v512 : Ref sig .tc := ⟨.hbm, 697, rfl⟩
abbrev main_v513 : Ref sig .tc := ⟨.hbm, 698, rfl⟩
abbrev main_v514 : Ref sig .tc := ⟨.hbm, 699, rfl⟩
abbrev main_cst_120 : Ref sig .tc := ⟨.hbm, 700, rfl⟩
abbrev main_v515 : Ref sig .tc := ⟨.hbm, 701, rfl⟩
abbrev main_v516 : Ref sig .tc := ⟨.hbm, 702, rfl⟩
abbrev main_v517 : Ref sig .tc := ⟨.hbm, 703, rfl⟩
abbrev main_v518 : Ref sig .tc := ⟨.hbm, 704, rfl⟩
abbrev main_v519 : Ref sig .tc := ⟨.hbm, 705, rfl⟩
abbrev main_v520 : Ref sig .tc := ⟨.hbm, 706, rfl⟩
abbrev main_v521 : Ref sig .tc := ⟨.hbm, 707, rfl⟩
abbrev main_v522 : Ref sig .tc := ⟨.hbm, 708, rfl⟩
abbrev main_v523 : Ref sig .tc := ⟨.hbm, 709, rfl⟩
abbrev main_v524 : Ref sig .tc := ⟨.hbm, 710, rfl⟩
abbrev main_v525 : Ref sig .tc := ⟨.hbm, 711, rfl⟩
abbrev main_v526 : Ref sig .tc := ⟨.hbm, 712, rfl⟩
abbrev main_v527 : Ref sig .tc := ⟨.hbm, 713, rfl⟩
abbrev main_v528 : Ref sig .tc := ⟨.hbm, 714, rfl⟩
abbrev main_v529 : Ref sig .tc := ⟨.hbm, 715, rfl⟩
abbrev main_v530 : Ref sig .tc := ⟨.hbm, 716, rfl⟩
abbrev main_cst_121 : Ref sig .tc := ⟨.hbm, 717, rfl⟩
abbrev main_v531 : Ref sig .tc := ⟨.hbm, 718, rfl⟩
abbrev main_v532 : Ref sig .tc := ⟨.hbm, 719, rfl⟩
abbrev main_v533 : Ref sig .tc := ⟨.hbm, 720, rfl⟩
abbrev main_v534 : Ref sig .tc := ⟨.hbm, 721, rfl⟩
abbrev main_v535 : Ref sig .tc := ⟨.hbm, 722, rfl⟩
abbrev main_v536 : Ref sig .tc := ⟨.hbm, 723, rfl⟩
abbrev main_cst_122 : Ref sig .tc := ⟨.hbm, 724, rfl⟩
abbrev main_v537 : Ref sig .tc := ⟨.hbm, 725, rfl⟩
abbrev main_v538 : Ref sig .tc := ⟨.hbm, 726, rfl⟩
abbrev main_v539 : Ref sig .tc := ⟨.hbm, 727, rfl⟩
abbrev main_cst_123 : Ref sig .tc := ⟨.hbm, 728, rfl⟩
abbrev main_call11_v0 : Ref sig .tc := ⟨.hbm, 729, rfl⟩
abbrev main_call11_v1 : Ref sig .tc := ⟨.hbm, 730, rfl⟩
abbrev main_v540 : Ref sig .tc := ⟨.hbm, 731, rfl⟩
abbrev main_call12_cst : Ref sig .tc := ⟨.hbm, 732, rfl⟩
abbrev main_call12_v0 : Ref sig .tc := ⟨.hbm, 733, rfl⟩
abbrev main_call12_cst_0 : Ref sig .tc := ⟨.hbm, 734, rfl⟩
abbrev main_call12_v1 : Ref sig .tc := ⟨.hbm, 735, rfl⟩
abbrev main_call12_v2 : Ref sig .tc := ⟨.hbm, 736, rfl⟩
abbrev main_call12_v3 : Ref sig .tc := ⟨.hbm, 737, rfl⟩
abbrev main_call12_v4 : Ref sig .tc := ⟨.hbm, 738, rfl⟩
abbrev main_call12_v5 : Ref sig .tc := ⟨.hbm, 739, rfl⟩
abbrev main_call12_v6 : Ref sig .tc := ⟨.hbm, 740, rfl⟩
abbrev main_call12_cst_1 : Ref sig .tc := ⟨.hbm, 741, rfl⟩
abbrev main_call12_v7 : Ref sig .tc := ⟨.hbm, 742, rfl⟩
abbrev main_call12_v8 : Ref sig .tc := ⟨.hbm, 743, rfl⟩
abbrev main_call12_v9 : Ref sig .tc := ⟨.hbm, 744, rfl⟩
abbrev main_call12_v10 : Ref sig .tc := ⟨.hbm, 745, rfl⟩
abbrev main_v541 : Ref sig .tc := ⟨.hbm, 746, rfl⟩
abbrev main_v542 : Ref sig .tc := ⟨.hbm, 747, rfl⟩
abbrev main_v543 : Ref sig .tc := ⟨.hbm, 748, rfl⟩
abbrev main_v544 : Ref sig .tc := ⟨.hbm, 749, rfl⟩
abbrev main_v545 : Ref sig .tc := ⟨.hbm, 750, rfl⟩
abbrev main_v546 : Ref sig .tc := ⟨.hbm, 751, rfl⟩
abbrev main_v547 : Ref sig .tc := ⟨.hbm, 752, rfl⟩
abbrev main_cst_124 : Ref sig .tc := ⟨.hbm, 753, rfl⟩
abbrev main_call13_v0 : Ref sig .tc := ⟨.hbm, 754, rfl⟩
abbrev main_call13_v1 : Ref sig .tc := ⟨.hbm, 755, rfl⟩
abbrev main_v548 : Ref sig .tc := ⟨.hbm, 756, rfl⟩
abbrev main_cst_125 : Ref sig .tc := ⟨.hbm, 757, rfl⟩
abbrev main_v549 : Ref sig .tc := ⟨.hbm, 758, rfl⟩
abbrev main_cst_126 : Ref sig .tc := ⟨.hbm, 759, rfl⟩
abbrev main_v550 : Ref sig .tc := ⟨.hbm, 760, rfl⟩
abbrev main_v551 : Ref sig .tc := ⟨.hbm, 761, rfl⟩
abbrev main_v552 : Ref sig .tc := ⟨.hbm, 762, rfl⟩
abbrev main_v553 : Ref sig .tc := ⟨.hbm, 763, rfl⟩
abbrev main_v554 : Ref sig .tc := ⟨.hbm, 764, rfl⟩
abbrev main_cst_127 : Ref sig .tc := ⟨.hbm, 765, rfl⟩
abbrev main_v555 : Ref sig .tc := ⟨.hbm, 766, rfl⟩
abbrev main_v556 : Ref sig .tc := ⟨.hbm, 767, rfl⟩
abbrev main_v557 : Ref sig .tc := ⟨.hbm, 768, rfl⟩
abbrev main_v558 : Ref sig .tc := ⟨.hbm, 769, rfl⟩
abbrev main_v559 : Ref sig .tc := ⟨.hbm, 770, rfl⟩
abbrev main_cst_128 : Ref sig .tc := ⟨.hbm, 771, rfl⟩
abbrev main_v560 : Ref sig .tc := ⟨.hbm, 772, rfl⟩
abbrev main_cst_129 : Ref sig .tc := ⟨.hbm, 773, rfl⟩
abbrev main_v561 : Ref sig .tc := ⟨.hbm, 774, rfl⟩
abbrev main_v562 : Ref sig .tc := ⟨.hbm, 775, rfl⟩
abbrev main_v563 : Ref sig .tc := ⟨.hbm, 776, rfl⟩
abbrev main_v564 : Ref sig .tc := ⟨.hbm, 777, rfl⟩
abbrev main_v565 : Ref sig .tc := ⟨.hbm, 778, rfl⟩
abbrev main_v566 : Ref sig .tc := ⟨.hbm, 779, rfl⟩
abbrev main_v567 : Ref sig .tc := ⟨.hbm, 780, rfl⟩
abbrev main_cst_130 : Ref sig .tc := ⟨.hbm, 781, rfl⟩
abbrev main_v568 : Ref sig .tc := ⟨.hbm, 782, rfl⟩
abbrev main_v569 : Ref sig .tc := ⟨.hbm, 783, rfl⟩
abbrev main_v570 : Ref sig .tc := ⟨.hbm, 784, rfl⟩
abbrev main_v571 : Ref sig .tc := ⟨.hbm, 785, rfl⟩
abbrev main_v572 : Ref sig .tc := ⟨.hbm, 786, rfl⟩
abbrev main_cst_131 : Ref sig .tc := ⟨.hbm, 787, rfl⟩
abbrev main_v573 : Ref sig .tc := ⟨.hbm, 788, rfl⟩
abbrev main_cst_132 : Ref sig .tc := ⟨.hbm, 789, rfl⟩
abbrev main_v574 : Ref sig .tc := ⟨.hbm, 790, rfl⟩
abbrev main_v575 : Ref sig .tc := ⟨.hbm, 791, rfl⟩
abbrev main_v576 : Ref sig .tc := ⟨.hbm, 792, rfl⟩
abbrev main_v577 : Ref sig .tc := ⟨.hbm, 793, rfl⟩
abbrev main_v578 : Ref sig .tc := ⟨.hbm, 794, rfl⟩
abbrev main_v579 : Ref sig .tc := ⟨.hbm, 795, rfl⟩
abbrev main_v580 : Ref sig .tc := ⟨.hbm, 796, rfl⟩
abbrev main_v581 : Ref sig .tc := ⟨.hbm, 797, rfl⟩
abbrev main_v582 : Ref sig .tc := ⟨.hbm, 798, rfl⟩
abbrev main_v583 : Ref sig .tc := ⟨.hbm, 799, rfl⟩
abbrev main_v584 : Ref sig .tc := ⟨.hbm, 800, rfl⟩
abbrev main_v585 : Ref sig .tc := ⟨.hbm, 801, rfl⟩
abbrev main_v586 : Ref sig .tc := ⟨.hbm, 802, rfl⟩
abbrev main_v587 : Ref sig .tc := ⟨.hbm, 803, rfl⟩
abbrev main_v588 : Ref sig .tc := ⟨.hbm, 804, rfl⟩
abbrev main_cst_133 : Ref sig .tc := ⟨.hbm, 805, rfl⟩
abbrev main_v589 : Ref sig .tc := ⟨.hbm, 806, rfl⟩
abbrev main_v590 : Ref sig .tc := ⟨.hbm, 807, rfl⟩
abbrev main_v591 : Ref sig .tc := ⟨.hbm, 808, rfl⟩
abbrev main_v592 : Ref sig .tc := ⟨.hbm, 809, rfl⟩
abbrev main_v593 : Ref sig .tc := ⟨.hbm, 810, rfl⟩
abbrev main_v594 : Ref sig .tc := ⟨.hbm, 811, rfl⟩

abbrev nD : Nat := 1
abbrev τ : Topo := Topo.v7x

variable {F : FTy → Type} [FloatOps F]
-- ==== Proof.Run.lean ====
/-
  The kernel body's run at given prior contents of the output's staging buffer and of the scratch: the second loop reads
  back what the first one stored in the scratch, so the pieces the output ends with are stated over those contents.
-/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The pieces the body's stores leave in the output's staging buffer (last first), with the proof that the body runs
    from the inputs at their contents, the output's buffer at `f4` and the scratch at `fs0` to the inputs as they were
    and the output's buffer with those pieces written. -/
noncomputable def sampleRun (c : Dev nD) (i : grid0.Coords) (arg1 : Memref sig .tc .vmem S64x8192 .i32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S64x2 .f32) (harg4 : arg4.IsWhole) (arg5 : Memref sig .tc .vmem S64x8192 .i32) (harg5 : arg5.IsWhole) (arg6 : Memref sig .tc .vmem S64x8192 .i32) (harg6 : arg6.IsWhole)
    (x0 : Vec F S64x8192 .i32) (x1 : Vec F S1x8192 .f32) (x2 : Vec F S1x8192 .f32) (x3 : Vec F S64x2 .f32)
    (f4 : BufTy.Contents (Elt F) arg5.view.ty) (fs0 : BufTy.Contents (Elt F) arg6.view.ty) :
    { L4 : List (View.Piece (Elt F) S64x8192 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} f4) ∗ (arg6.view.loc (c : Thread nD τ) ↦[arg6.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) f4 L4) ∗ (∃ d, owns (c : Thread nD τ) arg6 fullShare d)) -∗ K ⟨⟩))
          ⊢ wp frame (wpE (defs₀ (F := F)) Variants.none c none) E (cc0__sampler_kernel i arg1 harg1 arg2 harg2 arg3 harg3 arg4 harg4 arg5 harg5 arg6 harg6) K } := by
  refine ⟨?_, fun E K => ?run⟩
  case run =>
    simp only [cc0__sampler_kernel_eq_skeleton]; unfold cc0__sampler_kernel_skel
    unfold owns
    iintro ⟨⟨%f0, %hf0, H0⟩, ⟨%f1, %hf1, H1⟩, ⟨%f2, %hf2, H2⟩, ⟨%f3, %hf3, H3⟩, H4, HS0, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexact H4
    iexists _, _; isplitr; swap; · iexact HS0
    ipureintro; rfl

end Cert.KernelIdeal.Gen

end
-- ==== Proof.Element.lean ====
/-
  One coordinate of one sampler step as the kernel computes it, written once as functions of scalars:
  the threefry words, the Gumbel noise of a category, the five-term window scan, and the three
  quantities the acceptance test sums (forward log-probability, reverse log-probability, change of the
  model's value). The operations are the kernel's own, in the kernel's order.
-/
module

public import Idealize.ShloMosaic.PureOps.Ideal

@[expose] public section

noncomputable section

open Idealize.ShloMosaic

namespace Cert.Sampler

/-- A 32-bit word. -/
abbrev W := BitVec 32

variable {F : FTy → Type} [FloatOps F]

/-- A 32-bit number of the float operations `F`. -/
local notation "E" => F FTy.f32

/-- The number a float word denotes. -/
def lit (b : W) : E := FloatOps.ofBits .f32 b

/-- A word turned left by `r` places, spelled with the two shifts `r` and `s = 32 - r`. -/
def turn (r s : W) (x : W) : W := IntOp.ori (IntOp.shli .vector x r) (IntOp.shrui .vector x s)

/-- One round of the threefry mixer on a pair of words. -/
def mix (r s : W) (p : W × W) : W × W :=
  (IntOp.addi p.1 p.2, IntOp.xori (IntOp.addi p.1 p.2) (turn r s p.2))

/-- The four rounds of the even groups. -/
def even (p : W × W) : W × W :=
  mix 6#32 26#32 (mix 26#32 6#32 (mix 15#32 17#32 (mix 13#32 19#32 p)))

/-- The four rounds of the odd groups. -/
def odd (p : W × W) : W × W :=
  mix 24#32 8#32 (mix 16#32 16#32 (mix 29#32 3#32 (mix 17#32 15#32 p)))

/-- Adding the key words `a`, `b` and the group's number `n`. -/
def inject (a b n : W) (p : W × W) : W × W := (IntOp.addi p.1 a, IntOp.addi (IntOp.addi p.2 b) n)

/-- Threefry on a keyed counter pair: five groups of four rounds, a key addition after each.
    `k3` is the third key word. -/
def threefry (k1 k2 k3 : W) (p : W × W) : W × W :=
  inject k3 k1 5#32 (even
    (inject k2 k3 4#32 (odd
      (inject k1 k2 3#32 (even
        (inject k3 k1 2#32 (odd
          (inject k2 k3 1#32 (even p)))))))))

/-- The random word of a counter: the two output words, exclusive-or. -/
def bits (k1 k2 k3 x2 : W) : W :=
  IntOp.xori (threefry k1 k2 k3 (k1, x2)).1 (threefry k1 k2 k3 (k1, x2)).2

/-- The Gumbel variate of a random word. -/
def gumbelOf (b : W) : E :=
  FloatOps.subf (lit 0x00000000#32) (FloatOps.log (FloatOps.subf (lit 0x00000000#32) (FloatOps.log
    (FloatOps.addf
      (FloatOps.subf (FloatOps.ofBits .f32 (IntOp.ori (IntOp.shrui .vector b 9#32) 1065353216#32))
        (lit 0x3F800000#32))
      (lit 0x00800000#32)))))

/-- The Gumbel variate of the category `d` past the counter `n`. -/
def noise (k1 k2 k3 n d : W) : E := gumbelOf (bits k1 k2 k3 (IntOp.addi n d))

/-- The proposal's slope at the current category. -/
def slope (a q xf : E) : E := FloatOps.subf a (FloatOps.mulf xf q)

/-- A logit below the current category, `-∞` unless the category reaches `t`. -/
def low (xc t : W) (g df t2 : E) : E :=
  Scalar.select (IntOp.cmpi .sge xc t) (FloatOps.subf (FloatOps.mulf g df) t2) (lit 0xFF800000#32)

/-- A logit above the current category, `-∞` unless the category is at most `t`. -/
def high (xc t : W) (g df t2 : E) : E :=
  Scalar.select (IntOp.cmpi .sle xc t) (FloatOps.subf (FloatOps.mulf g df) t2) (lit 0xFF800000#32)

/-- The logit two below. -/
def lm2 (xc : W) (g : E) : E := low xc 2#32 g (lit 0xC0000000#32) (lit 0x41200000#32)
/-- The logit one below. -/
def lm1 (xc : W) (g : E) : E := low xc 1#32 g (lit 0xBF800000#32) (lit 0x40200000#32)
/-- The logit one above. -/
def lp1 (xc : W) (g : E) : E := high xc 62#32 g (lit 0x3F800000#32) (lit 0x40200000#32)
/-- The logit two above. -/
def lp2 (xc : W) (g : E) : E := high xc 61#32 g (lit 0x40000000#32) (lit 0x41200000#32)

/-- The normaliser: the sum of the window's exponentials. -/
def norm (xc : W) (g : E) : E :=
  FloatOps.addf (FloatOps.addf (FloatOps.addf (FloatOps.addf (FloatOps.exp (lm2 xc g)) (FloatOps.exp (lm1 xc g)))
    (lit 0x3F800000#32)) (FloatOps.exp (lp1 xc g))) (FloatOps.exp (lp2 xc g))

/-- One comparison of the scan: a strictly larger score takes over. -/
def better (v : E) (d : W) (st : E × W) : E × W :=
  (Scalar.select (FloatOps.cmpf .ogt v st.1) v st.1, Scalar.select (FloatOps.cmpf .ogt v st.1) d st.2)

/-- The scan's state (best score, its displacement) at the window's start, two below. -/
def best0 (k1 k2 k3 n xc : W) (g : E) : E × W :=
  (FloatOps.addf (lm2 xc g) (noise k1 k2 k3 n 4294967294#32), 4294967294#32)

/-- The scan's state after one below. -/
def best1 (k1 k2 k3 n xc : W) (g : E) : E × W :=
  better (FloatOps.addf (lm1 xc g) (noise k1 k2 k3 n 4294967295#32)) 4294967295#32 (best0 k1 k2 k3 n xc g)

/-- The scan's state after the current category, whose logit is zero. -/
def best2 (k1 k2 k3 n xc : W) (g : E) : E × W :=
  better (noise k1 k2 k3 n 0#32) 0#32 (best1 k1 k2 k3 n xc g)

/-- The scan's state after one above. -/
def best3 (k1 k2 k3 n xc : W) (g : E) : E × W :=
  better (FloatOps.addf (lp1 xc g) (noise k1 k2 k3 n 1#32)) 1#32 (best2 k1 k2 k3 n xc g)

/-- The window's best displacement. -/
def best (k1 k2 k3 n xc : W) (g : E) : W :=
  (better (FloatOps.addf (lp2 xc g) (noise k1 k2 k3 n 2#32)) 2#32 (best3 k1 k2 k3 n xc g)).2

/-- A displacement's log-probability under a slope and a normaliser. -/
def logp (g df s : E) : E :=
  FloatOps.subf (FloatOps.subf (FloatOps.mulf g df) (FloatOps.mulf (FloatOps.mulf df df) (lit 0x40200000#32)))
    (FloatOps.log s)

/-- The proposed category. -/
def moved (k1 k2 k3 n xc : W) (a q : E) : W :=
  IntOp.addi xc (best k1 k2 k3 n xc (slope a q (FloatOps.sitofp .f32 xc)))

/-- The proposal's log-probability. -/
def fwd (k1 k2 k3 n xc : W) (a q : E) : E :=
  logp (slope a q (FloatOps.sitofp .f32 xc))
    (FloatOps.sitofp .f32 (best k1 k2 k3 n xc (slope a q (FloatOps.sitofp .f32 xc))))
    (norm xc (slope a q (FloatOps.sitofp .f32 xc)))

/-- Half the slope at the proposed category `xd`. -/
def back (xd : W) (a q : E) : E := FloatOps.divf (slope a q (FloatOps.sitofp .f32 xd)) (lit 0x40000000#32)

/-- The way back's log-probability. -/
def rev (xc xd : W) (a q : E) : E :=
  logp (back xd a q) (FloatOps.sitofp .f32 (IntOp.subi xc xd)) (norm xd (back xd a q))

/-- A coordinate's share of the model. -/
def share (xf a q : E) : E :=
  FloatOps.subf (FloatOps.mulf xf a) (FloatOps.mulf (lit 0x3F000000#32) (FloatOps.mulf (FloatOps.mulf xf xf) q))

/-- The change of a coordinate's share of the model. -/
def gain (xc xd : W) (a q : E) : E :=
  FloatOps.subf (share (FloatOps.sitofp .f32 xd) a q) (share (FloatOps.sitofp .f32 xc) a q)

end Cert.Sampler
-- ==== Proof.Trip.lean ====
/-
  What one trip of each of the kernel's two sampling loops computes, coordinate by coordinate: the
  loops' named intermediate vectors are the scalar functions of `Element.lean` at each coordinate.
-/
module

public import proofs.«01_k».proof.Proof.Gen.KernelIdeal.Loops
public import proofs.«01_k».proof.Proof.Element

@[expose] public section

set_option maxRecDepth 65536

noncomputable section

namespace Cert.KernelIdeal.Gen

open Idealize.ShloMosaic Idealize.ShloMosaic.TcCoe Idealize.ShloMosaic.Tactic
open Cert.Sampler

variable {F : FTy → Type} [FloatOps F]
variable (i : grid0.Coords) (arg1 : Memref sig .tc .vmem S64x8192 .i32) (arg2 : Memref sig .tc .vmem S1x8192 .f32)
  (arg3 : Memref sig .tc .vmem S1x8192 .f32) (arg6 : Memref sig .tc .vmem S64x8192 .i32)
  (X1 : BufTy.Contents (Elt F) arg1.view.ty) (X2 : BufTy.Contents (Elt F) arg2.view.ty)
  (X3 : BufTy.Contents (Elt F) arg3.view.ty)

section One

variable (k : Fin k0_t1_loop.trips) (j : S64x1024.Idx)

/-- The first loop's proposed category at a coordinate. -/
theorem moved1 : trip_k0_t1.sl.r_36 i arg1 arg2 arg3 X1 X2 X3 k j
    = moved 1832780943#32 270669613#32 1724713080#32 (trip_k0_t1.sl.r_5 i arg1 X1 k j) (trip_k0_t1.sl.r arg1 X1 k j)
        (broadcastTo S64x1024 (trip_k0_t1.sl.r_1 arg2 X2 k) broadcasts_S1x1024_S64x1024 j)
        (broadcastTo S64x1024 (trip_k0_t1.sl.r_2 arg3 X3 k) broadcasts_S1x1024_S64x1024 j) := by
  sl_kernel_rfl

/-- The first loop's forward log-probability at a coordinate. -/
theorem fwd1 : trip_k0_t1.sl.r_35 i arg1 arg2 arg3 X1 X2 X3 k j
    = fwd 1832780943#32 270669613#32 1724713080#32 (trip_k0_t1.sl.r_5 i arg1 X1 k j) (trip_k0_t1.sl.r arg1 X1 k j)
        (broadcastTo S64x1024 (trip_k0_t1.sl.r_1 arg2 X2 k) broadcasts_S1x1024_S64x1024 j)
        (broadcastTo S64x1024 (trip_k0_t1.sl.r_2 arg3 X3 k) broadcasts_S1x1024_S64x1024 j) := by
  sl_kernel_rfl

/-- The first loop's reverse log-probability at a coordinate. -/
theorem rev1 : trip_k0_t1.sl.r_40 i arg1 arg2 arg3 X1 X2 X3 k j
    = rev (trip_k0_t1.sl.r arg1 X1 k j) (trip_k0_t1.sl.r_36 i arg1 arg2 arg3 X1 X2 X3 k j)
        (broadcastTo S64x1024 (trip_k0_t1.sl.r_1 arg2 X2 k) broadcasts_S1x1024_S64x1024 j)
        (broadcastTo S64x1024 (trip_k0_t1.sl.r_2 arg3 X3 k) broadcasts_S1x1024_S64x1024 j) := by
  sl_kernel_rfl

/-- The first loop's change of the model at a coordinate. -/
theorem gain1 : trip_k0_t1.sl.r_41 i arg1 arg2 arg3 X1 X2 X3 k j
    = gain (trip_k0_t1.sl.r arg1 X1 k j) (trip_k0_t1.sl.r_36 i arg1 arg2 arg3 X1 X2 X3 k j)
        (broadcastTo S64x1024 (trip_k0_t1.sl.r_1 arg2 X2 k) broadcasts_S1x1024_S64x1024 j)
        (broadcastTo S64x1024 (trip_k0_t1.sl.r_2 arg3 X3 k) broadcasts_S1x1024_S64x1024 j) := by
  sl_kernel_rfl

end One

section Two

variable (v0 v1 v2 : FVec F S64x1 .f32) (v15 : Vec F S64x1 .f32) (k : Fin k0_t2_loop.trips)
  (f6 : BufTy.Contents (Elt F) arg6.view.ty) (j : S64x1024.Idx)

/-- The second loop's proposed categories. -/
def xd2 : IVec S64x1024 32 :=
  k0_pay509 (trip_k0_t2.sl.r arg1 arg6 v0 v1 v2 v15 X1 k f6)
    (trip_k0_t2.sl.r_4 arg1 arg2 arg3 arg6 v0 v1 v2 v15 X1 X2 X3 k f6)
    (trip_k0_t2.sl.r_25 i arg1 arg2 arg3 arg6 v0 v1 v2 v15 X1 X2 X3 k f6)
    (trip_k0_t2.sl.r_26 i arg1 arg2 arg3 arg6 v0 v1 v2 v15 X1 X2 X3 k f6)
    (trip_k0_t2.sl.r_28 i arg1 arg6 v0 v1 v2 v15 X1 k f6) 61#32

/-- The second loop's proposed category at a coordinate. -/
theorem moved2 : xd2 i arg1 arg2 arg3 arg6 X1 X2 X3 v0 v1 v2 v15 k f6 j
    = moved 3134548294#32 894150801#32 2488261133#32 (trip_k0_t2.sl.r_5 i arg1 arg6 v0 v1 v2 v15 X1 k f6 j)
        (trip_k0_t2.sl.r arg1 arg6 v0 v1 v2 v15 X1 k f6 j)
        (broadcastTo S64x1024 (trip_k0_t2.sl.r_1 arg2 X2 k) broadcasts_S1x1024_S64x1024 j)
        (broadcastTo S64x1024 (trip_k0_t2.sl.r_2 arg3 X3 k) broadcasts_S1x1024_S64x1024 j) := by
  sl_kernel_rfl

/-- The second loop's forward log-probability at a coordinate. -/
theorem fwd2 : trip_k0_t2.sl.r_29 i arg1 arg2 arg3 arg6 v0 v1 v2 v15 X1 X2 X3 k f6 j
    = fwd 3134548294#32 894150801#32 2488261133#32 (trip_k0_t2.sl.r_5 i arg1 arg6 v0 v1 v2 v15 X1 k f6 j)
        (trip_k0_t2.sl.r arg1 arg6 v0 v1 v2 v15 X1 k f6 j)
        (broadcastTo S64x1024 (trip_k0_t2.sl.r_1 arg2 X2 k) broadcasts_S1x1024_S64x1024 j)
        (broadcastTo S64x1024 (trip_k0_t2.sl.r_2 arg3 X3 k) broadcasts_S1x1024_S64x1024 j) := by
  sl_kernel_rfl

/-- The second loop's reverse log-probability at a coordinate. -/
theorem rev2 : trip_k0_t2.sl.r_35 i arg1 arg2 arg3 arg6 v0 v1 v2 v15 X1 X2 X3 k f6 j
    = rev (trip_k0_t2.sl.r arg1 arg6 v0 v1 v2 v15 X1 k f6 j) (xd2 i arg1 arg2 arg3 arg6 X1 X2 X3 v0 v1 v2 v15 k f6 j)
        (broadcastTo S64x1024 (trip_k0_t2.sl.r_1 arg2 X2 k) broadcasts_S1x1024_S64x1024 j)
        (broadcastTo S64x1024 (trip_k0_t2.sl.r_2 arg3 X3 k) broadcasts_S1x1024_S64x1024 j) := by
  sl_kernel_rfl

/-- The second loop's changes of the model. -/
def gains2 : FVec F S64x1024 .f32 :=
  subf (trip_k0_t2.sl.r_36 i arg1 arg2 arg3 arg6 v0 v1 v2 v15 X1 X2 X3 k f6)
    (subf (mulf (trip_k0_t2.sl.r_3 arg1 arg6 v0 v1 v2 v15 X1 k f6) (trip_k0_t2.sl.r_37 arg2 X2 k))
      (mulf (broadcast S64x1024 (Scalar.ofBits .f32 0x3F000000#32))
        (mulf (mulf (trip_k0_t2.sl.r_3 arg1 arg6 v0 v1 v2 v15 X1 k f6) (trip_k0_t2.sl.r_3 arg1 arg6 v0 v1 v2 v15 X1 k f6))
          (broadcastTo S64x1024 (trip_k0_t2.sl.r_2 arg3 X3 k) broadcasts_S1x1024_S64x1024))))

/-- The second loop's change of the model at a coordinate. -/
theorem gain2 : gains2 i arg1 arg2 arg3 arg6 X1 X2 X3 v0 v1 v2 v15 k f6 j
    = gain (trip_k0_t2.sl.r arg1 arg6 v0 v1 v2 v15 X1 k f6 j) (xd2 i arg1 arg2 arg3 arg6 X1 X2 X3 v0 v1 v2 v15 k f6 j)
        (broadcastTo S64x1024 (trip_k0_t2.sl.r_1 arg2 X2 k) broadcasts_S1x1024_S64x1024 j)
        (broadcastTo S64x1024 (trip_k0_t2.sl.r_2 arg3 X3 k) broadcasts_S1x1024_S64x1024 j) := by
  sl_kernel_rfl

end Two

end Cert.KernelIdeal.Gen
-- ==== Proof.Steps.lean ====
/-
  The kernel's result as vectors over the whole array: one step's proposal, its acceptance from three sums taken block by
  block, and the two steps one after the other; with the reading of a block of a whole array.
-/
module

public import proofs.«01_k».proof.Proof.Trip
public import Idealize.ShloMosaic.Lib.VecWindow

@[expose] public section

set_option maxRecDepth 65536

noncomputable section

namespace Cert.KernelIdeal.Gen

open Idealize.ShloMosaic Idealize.ShloMosaic.TcCoe Idealize.ShloMosaic.Tactic
open Cert.Sampler

variable {F : FTy → Type} [FloatOps F]

/-- Coordinate `j` of the `k`-th block of 1024 columns, as a coordinate of the whole array. -/
def cell (k : ℕ) (j : S64x1024.Idx) : S64x8192.Idx := fun a =>
  ⟨((![0, 1024 * k] : Fin 2 → ℕ) a + (j a).val) % S64x8192.size a, Nat.mod_lt _ (by revert a; decide)⟩

theorem cell_val (k : ℕ) (hk : k < 8) (j : S64x1024.Idx) (a : Fin S64x8192.rank) :
    (cell k j a).val = (![0, 1024 * k] : Fin 2 → ℕ) a + (j a).val := by
  refine Nat.mod_eq_of_lt ?_
  have h : ∀ b : Fin 2, (![0, 1024 * k] : Fin 2 → ℕ) b + (j b).val < S64x8192.size b := by
    intro b
    have hb := (j b).isLt
    match b, hb with
    | 0, hb => show 0 + (j 0).val < 64; have : (j 0).val < 64 := hb; omega
    | 1, hb => show 1024 * k + (j 1).val < 8192; have : (j 1).val < 1024 := hb; omega
  exact h a

/-- Every coordinate with its column in block `k` is a coordinate of that block. -/
theorem exists_cell (y : S64x8192.Idx) (k : ℕ) (hk : k < 8) (h1 : 1024 * k ≤ (y 1).val) (h2 : (y 1).val < 1024 * k + 1024) :
    ∃ j : S64x1024.Idx, (∀ a, (y a).val = (![0, 1024 * k] : Fin 2 → ℕ) a + (j a).val) ∧ cell k j = y := by
  have hy : (y 0).val < 64 := (y 0).isLt
  let j : S64x1024.Idx := fun a => match a with
    | 0 => ⟨(y 0).val, hy⟩
    | 1 => ⟨(y 1).val - 1024 * k, by show _ < 1024; omega⟩
  have hj : ∀ a : Fin 2, (y a).val = (![0, 1024 * k] : Fin 2 → ℕ) a + (j a).val := by
    intro a
    match a with
    | 0 => show (y 0).val = 0 + (y 0).val; omega
    | 1 => show (y 1).val = 1024 * k + ((y 1).val - 1024 * k); omega
  exact ⟨j, hj, funext fun a => Fin.ext ((cell_val k hk j a).trans (hj a).symm)⟩

theorem spreads : S1x8192.Broadcasts S64x8192 := by decide

/-- The weight of a coordinate's column. -/
def weight (w : Vec F S1x8192 .f32) (y : S64x8192.Idx) : F .f32 := broadcastTo S64x8192 w spreads y

/-- The random number counter at a coordinate's current category. -/
def count (k2 : W) (x : IVec S64x8192 32) (y : S64x8192.Idx) : W :=
  k2 + ((BitVec.ofNat 32 (y 0).val * 8192#32 + BitVec.ofNat 32 (y 1).val) * 64#32 + x y)

/-- The step's proposed categories. -/
def movedAll (k1 k2 k3 : W) (w1 w2 : Vec F S1x8192 .f32) (x : IVec S64x8192 32) : IVec S64x8192 32 := fun y =>
  moved k1 k2 k3 (count k2 x y) (x y) (weight w1 y) (weight w2 y)

/-- The proposal's log-probabilities. -/
def fwdAll (k1 k2 k3 : W) (w1 w2 : Vec F S1x8192 .f32) (x : IVec S64x8192 32) : FVec F S64x8192 .f32 := fun y =>
  fwd k1 k2 k3 (count k2 x y) (x y) (weight w1 y) (weight w2 y)

/-- The log-probabilities of proposing the way back. -/
def revAll (k1 k2 k3 : W) (w1 w2 : Vec F S1x8192 .f32) (x : IVec S64x8192 32) : FVec F S64x8192 .f32 := fun y =>
  rev (x y) (movedAll k1 k2 k3 w1 w2 x y) (weight w1 y) (weight w2 y)

/-- The changes of the model. -/
def gainAll (k1 k2 k3 : W) (w1 w2 : Vec F S1x8192 .f32) (x : IVec S64x8192 32) : FVec F S64x8192 .f32 := fun y =>
  gain (x y) (movedAll k1 k2 k3 w1 w2 x y) (weight w1 y) (weight w2 y)

/-- The row sums over the first `k` blocks, block by block. -/
def total (f : FVec F S64x8192 .f32) : ℕ → FVec F S64x1 .f32
  | 0 => k0_pay2
  | k + 1 => k0_pay3 (total f k) fun j => f (cell k j)

/-- Whether each row accepts its proposal. -/
def accepts (k1 k2 k3 : W) (w1 w2 : Vec F S1x8192 .f32) (u : Vec F S64x1 .f32) (x : IVec S64x8192 32) : IVec S64x1 1 :=
  k0_pay6 (total (fwdAll k1 k2 k3 w1 w2 x) 8) (total (revAll k1 k2 k3 w1 w2 x) 8) (total (gainAll k1 k2 k3 w1 w2 x) 8) u

theorem rowSpreads : S64x1.Broadcasts S64x8192 := by decide

/-- One step of the sampler, as the kernel takes it. -/
def kstep (k1 k2 k3 : W) (w1 w2 : Vec F S1x8192 .f32) (u : Vec F S64x1 .f32) (x : IVec S64x8192 32) : IVec S64x8192 32 :=
  select (broadcastTo S64x8192 (accepts k1 k2 k3 w1 w2 u x) rowSpreads) (movedAll k1 k2 k3 w1 w2 x) x

/-- The kernel's result: two steps, each with its keys and its column of the acceptance draws. -/
def kout (x : IVec S64x8192 32) (w1 w2 : Vec F S1x8192 .f32) (u : Vec F S64x2 .f32) : IVec S64x8192 32 :=
  kstep 3134548294#32 894150801#32 2488261133#32 w1 w2
    (VecWindow.window u ![0, 1] ![64, 1] inb_S64x2_S64x1_0_1)
    (kstep 1832780943#32 270669613#32 1724713080#32 w1 w2 (VecWindow.window u ![0, 0] ![64, 1] inb_S64x2_S64x1_0_0) x)

end Cert.KernelIdeal.Gen
-- ==== Proof.Blocks.lean ====
/-
  The three loops of the kernel over memory: what each leaves in the scratch and in the output's buffer, read back, and what
  the sampling loops carry, is the whole-array description of `Steps.lean`, block after block.
-/
module

public import proofs.«01_k».proof.Proof.Steps
public import Idealize.ShloMosaic.Lib.WritesUnit
public import Idealize.ShloMosaic.Lib.Pipeline.Value
public import Mathlib.Data.BitVec

@[expose] public section

set_option maxRecDepth 65536

noncomputable section

namespace Cert.KernelIdeal.Gen

open Idealize.ShloMosaic Idealize.ShloMosaic.TcCoe Idealize.ShloMosaic.Tactic
open Cert.Sampler

variable {F : FTy → Type} [FloatOps F]

/-- A block of a row vector, spread over the rows, at a coordinate. -/
theorem weight_block (w : Vec F S1x8192 .f32) (k : ℕ) (hk : k < 8) (inb) (j : S64x1024.Idx) :
    broadcastTo S64x1024 (VecWindow.window w ![0, 1024 * k] S1x1024.size inb) broadcasts_S1x1024_S64x1024 j = weight w (cell k j) := by
  refine congrArg w (funext fun a => Fin.ext ?_)
  match a with
  | 0 => rfl
  | 1 =>
    show 1024 * k + 1 * (j 1).val = (cell k j 1).val
    rw [cell_val k hk j]; show _ = 1024 * k + (j 1).val; omega

/-- A block of the whole array at a coordinate. -/
theorem window_cell {α : Type} (x : S64x8192.Idx → α) (k : ℕ) (hk : k < 8) (inb) (j : S64x1024.Idx) :
    VecWindow.window x ![0, 1024 * k] S64x1024.size inb j = x (cell k j) := by
  refine congrArg x (funext fun a => Fin.ext ?_)
  rw [cell_val k hk j]
  show (![0, 1024 * k] : Fin 2 → ℕ) a + 1 * (j a).val = _
  omega

/-- A column vector spread over a block's columns and over all columns. -/
theorem column_block {α : Type} (v : S64x1.Idx → α) (k : ℕ) (hk : k < 8) (j : S64x1024.Idx) :
    broadcastTo S64x1024 v broadcasts_S64x1_S64x1024 j = broadcastTo S64x8192 v rowSpreads (cell k j) := by
  refine congrArg v (funext fun a => Fin.ext ?_)
  match a with
  | 0 =>
    show (j 0).val = (cell k j 0).val
    rw [cell_val k hk j]; show _ = 0 + (j 0).val; omega
  | 1 => rfl

/-- The block's counter, put together from its parts, is the whole array's. -/
theorem count_cell (i : grid0.Coords) (k2 : W) (x : IVec S64x8192 32) (k : ℕ) (hk : k < 8) (j : S64x1024.Idx) (v : W) (hv : v = x (cell k j)) :
    (BitVec.ofNat 32 (i 0).val * 64#32 + iota .tc S64x1024 32 [0] iota_S64x1024_d0_w32 j) * 524288#32
        + iota .tc S64x1024 32 [1] iota_S64x1024_d1_w32 j * 64#32 + (v + ((0#32 + BitVec.ofNat 32 k * 1#32) * 65536#32 + k2))
      = count k2 x (cell k j) := by
  have hi : (i 0).val = 0 := Nat.lt_one_iff.mp (i 0).isLt
  have e0 : (cell k j 0).val = (j 0).val := by rw [cell_val k hk j]; show 0 + _ = _; omega
  have e1 : (cell k j 1).val = 1024 * k + (j 1).val := by rw [cell_val k hk j]; rfl
  rw [hi, hv, iota_single_apply, iota_single_apply]
  unfold count
  rw [e0, e1]
  generalize x (cell k j) = c
  generalize (j 0).val = b
  generalize (j 1).val = p
  have s1 : (524288#32 : W) = 8192#32 * 64#32 := rfl
  have s2 : (65536#32 : W) = 1024#32 * 64#32 := rfl
  have s3 : BitVec.ofNat 32 (1024 * k + p) = 1024#32 * BitVec.ofNat 32 k + BitVec.ofNat 32 p := by
    rw [BitVec.ofNat_add, BitVec.ofNat_mul]
  have s4 : BitVec.ofNat 32 0 * 64#32 = 0 := rfl
  have s5 : (1#32 : W) = 1 := rfl
  have s6 : (0#32 : W) = 0 := rfl
  rw [s1, s2, s3, s4, s5, s6]
  generalize (8192#32 : W) = r1
  generalize (64#32 : W) = r2
  generalize (1024#32 : W) = r3
  ring

section
variable (𝒱 : Variants) (c : Dev nD) (bd : Option 𝒱.V) (i : grid0.Coords) (arg1 : Memref sig .tc .vmem S64x8192 .i32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S64x2 .f32) (harg4 : arg4.IsWhole) (arg5 : Memref sig .tc .vmem S64x8192 .i32) (harg5 : arg5.IsWhole) (arg6 : Memref sig .tc .vmem S64x8192 .i32) (harg6 : arg6.IsWhole)
  (X1 : BufTy.Contents (Elt F) arg1.view.ty) (X2 : BufTy.Contents (Elt F) arg2.view.ty)
  (X3 : BufTy.Contents (Elt F) arg3.view.ty)

section One

variable (k : Fin k0_t1_loop.trips) (j : S64x1024.Idx)

/-- The first loop takes eight trips. -/
theorem lt1 : k.val < 8 := lt_of_lt_of_le k.isLt (by decide)

/-- The current categories the first loop reads. -/
theorem x1_block : trip_k0_t1.sl.r arg1 X1 k j = arg1.view.read (Elt F) X1 (cell k.val j) :=
  (congrFun (View.readAt_unit arg1.view X1 (k0_off1_inb k) (k0_off1_eq k) (k0_off1_eq k ▸ k0_off1_inb k)) j).trans (window_cell _ _ (lt1 k) _ j)

/-- The linear weights the first loop reads. -/
theorem w1_block : broadcastTo S64x1024 (trip_k0_t1.sl.r_1 arg2 X2 k) broadcasts_S1x1024_S64x1024 j = weight (arg2.view.read (Elt F) X2) (cell k.val j) := by
  have h : trip_k0_t1.sl.r_1 arg2 X2 k = VecWindow.window (arg2.view.read (Elt F) X2) ![0, 1024 * k.val] S1x1024.size (k0_off2_eq k ▸ k0_off2_inb k) := by
    unfold trip_k0_t1.sl.r_1 k0_pay12
    dsimp only
    rw [shapeCast_self]
    exact View.readAt_unit arg2.view X2 (k0_off2_inb k) (k0_off2_eq k) _
  rw [h]
  exact weight_block _ _ (lt1 k) _ j

/-- The quadratic weights the first loop reads. -/
theorem q1_block : broadcastTo S64x1024 (trip_k0_t1.sl.r_2 arg3 X3 k) broadcasts_S1x1024_S64x1024 j = weight (arg3.view.read (Elt F) X3) (cell k.val j) := by
  have h : trip_k0_t1.sl.r_2 arg3 X3 k = VecWindow.window (arg3.view.read (Elt F) X3) ![0, 1024 * k.val] S1x1024.size (k0_off2_eq k ▸ k0_off2_inb k) := by
    unfold trip_k0_t1.sl.r_2 k0_pay13
    dsimp only
    rw [shapeCast_self]
    exact View.readAt_unit arg3.view X3 (k0_off2_inb k) (k0_off2_eq k) _
  rw [h]
  exact weight_block _ _ (lt1 k) _ j

/-- The first loop's counters. -/
theorem n1_block : trip_k0_t1.sl.r_5 i arg1 X1 k j = count 270669613#32 (arg1.view.read (Elt F) X1) (cell k.val j) := by
  have h : trip_k0_t1.sl.r_5 i arg1 X1 k j = (BitVec.ofNat 32 (i 0).val * 64#32 + iota .tc S64x1024 32 [0] iota_S64x1024_d0_w32 j) * 524288#32
        + iota .tc S64x1024 32 [1] iota_S64x1024_d1_w32 j * 64#32
        + (trip_k0_t1.sl.r arg1 X1 k j + ((0#32 + BitVec.ofNat 32 k.val * 1#32) * 65536#32 + 270669613#32)) := by
    sl_kernel_rfl
  exact h.trans (count_cell i _ _ k.val (lt1 k) j _ (x1_block arg1 X1 k j))

/-- The first loop's proposed categories. -/
theorem moved1_block : trip_k0_t1.sl.r_36 i arg1 arg2 arg3 X1 X2 X3 k j = movedAll 1832780943#32 270669613#32 1724713080#32 (arg2.view.read (Elt F) X2) (arg3.view.read (Elt F) X3) (arg1.view.read (Elt F) X1) (cell k.val j) := by
  rw [moved1, x1_block, w1_block, q1_block, n1_block]; rfl
/-- The first loop's forward log-probabilities. -/
theorem fwd1_block : trip_k0_t1.sl.r_35 i arg1 arg2 arg3 X1 X2 X3 k j = fwdAll 1832780943#32 270669613#32 1724713080#32 (arg2.view.read (Elt F) X2) (arg3.view.read (Elt F) X3) (arg1.view.read (Elt F) X1) (cell k.val j) := by
  rw [fwd1, x1_block, w1_block, q1_block, n1_block]; rfl
/-- The first loop's reverse log-probabilities. -/
theorem rev1_block : trip_k0_t1.sl.r_40 i arg1 arg2 arg3 X1 X2 X3 k j = revAll 1832780943#32 270669613#32 1724713080#32 (arg2.view.read (Elt F) X2) (arg3.view.read (Elt F) X3) (arg1.view.read (Elt F) X1) (cell k.val j) := by
  rw [rev1, moved1_block, x1_block, w1_block, q1_block]; rfl
/-- The first loop's changes of the model. -/
theorem gain1_block : trip_k0_t1.sl.r_41 i arg1 arg2 arg3 X1 X2 X3 k j = gainAll 1832780943#32 270669613#32 1724713080#32 (arg2.view.read (Elt F) X2) (arg3.view.read (Elt F) X3) (arg1.view.read (Elt F) X1) (cell k.val j) := by
  rw [gain1, moved1_block, x1_block, w1_block, q1_block]; rfl

/-- What one trip of the first loop adds to the carried sums. -/
theorem tripR1 (acc) : tripR_k0_t1 𝒱 c bd i arg1 harg1 arg2 harg2 arg3 harg3 arg4 harg4 arg5 harg5 arg6 harg6 X1 X2 X3 k acc
   = (k0_pay3 acc.1 (trip_k0_t1.sl.r_35 i arg1 arg2 arg3 X1 X2 X3 k), k0_pay3 acc.2.1 (trip_k0_t1.sl.r_40 i arg1 arg2 arg3 X1 X2 X3 k),
     k0_pay3 acc.2.2 (trip_k0_t1.sl.r_41 i arg1 arg2 arg3 X1 X2 X3 k)) := by
  unfold tripR_k0_t1 trip_k0_t1; dsimp only; rfl
/-- What one trip of the first loop stores. -/
theorem tripL1 (acc) : tripL_k0_t1 𝒱 c bd i arg1 harg1 arg2 harg2 arg3 harg3 arg4 harg4 arg5 harg5 arg6 harg6 X1 X2 X3 k acc
   = [⟨Rect.unit (k0_off1 k) S64x1024.size (k0_off1_inb k), trip_k0_t1.sl.r_36 i arg1 arg2 arg3 X1 X2 X3 k⟩] := by
  unfold tripL_k0_t1 trip_k0_t1; dsimp only
  unfold k0_pay260; dsimp only; rw [shapeCast_self]; rfl

end One

/-- Each of the eight trips is one of the first loop's. -/
theorem in1 (n : ℕ) (hn : n + 1 ≤ 8) : n < k0_t1_loop.trips := lt_of_lt_of_le (Nat.lt_of_succ_le hn) (by decide)

/-- What the first loop carries after `n` trips, and what it has left in the scratch, over any prior contents. -/
theorem loop1 (n : ℕ) (hn : n ≤ 8) :
    (st_k0_t1 𝒱 c bd i arg1 harg1 arg2 harg2 arg3 harg3 arg4 harg4 arg5 harg5 arg6 harg6 X1 X2 X3 (k0_pay2, k0_pay2, k0_pay2) n).1
      = (total (fwdAll 1832780943#32 270669613#32 1724713080#32 (arg2.view.read (Elt F) X2) (arg3.view.read (Elt F) X3) (arg1.view.read (Elt F) X1)) n, total (revAll 1832780943#32 270669613#32 1724713080#32 (arg2.view.read (Elt F) X2) (arg3.view.read (Elt F) X3) (arg1.view.read (Elt F) X1)) n, total (gainAll 1832780943#32 270669613#32 1724713080#32 (arg2.view.read (Elt F) X2) (arg3.view.read (Elt F) X3) (arg1.view.read (Elt F) X1)) n)
    ∧ ∀ (f : BufTy.Contents (Elt F) arg6.view.ty) (y : S64x8192.Idx), (y 1).val < 1024 * n →
        arg6.view.read (Elt F) (arg6.view.writes (Elt F) f
          (st_k0_t1 𝒱 c bd i arg1 harg1 arg2 harg2 arg3 harg3 arg4 harg4 arg5 harg5 arg6 harg6 X1 X2 X3 (k0_pay2, k0_pay2, k0_pay2) n).2) y
        = movedAll 1832780943#32 270669613#32 1724713080#32 (arg2.view.read (Elt F) X2) (arg3.view.read (Elt F) X3) (arg1.view.read (Elt F) X1) y := by
  induction n with
  | zero => exact ⟨rfl, fun f y hy => absurd hy (by omega)⟩
  | succ n ih =>
    obtain ⟨ih1, ih2⟩ := ih (by omega)
    have hs := st_k0_t1_succ (F := F) 𝒱 c bd i arg1 harg1 arg2 harg2 arg3 harg3 arg4 harg4 arg5 harg5 arg6 harg6 X1 X2 X3
      (k0_pay2, k0_pay2, k0_pay2) ⟨n, in1 n hn⟩
    dsimp only at hs
    rw [hs, tripR1, tripL1, ih1]
    refine ⟨?_, fun f y hy => ?_⟩
    · dsimp only
      exact Prod.ext (congrArg (k0_pay3 _) (funext fun j => fwd1_block i arg1 arg2 arg3 X1 X2 X3 ⟨n, in1 n hn⟩ j))
        (Prod.ext (congrArg (k0_pay3 _) (funext fun j => rev1_block i arg1 arg2 arg3 X1 X2 X3 ⟨n, in1 n hn⟩ j))
          (congrArg (k0_pay3 _) (funext fun j => gain1_block i arg1 arg2 arg3 X1 X2 X3 ⟨n, in1 n hn⟩ j)))
    · dsimp only [List.cons_append, List.nil_append]
      by_cases hc : (y 1).val < 1024 * n
      · refine (View.read_writes_cons_unit_of_not_mem arg6.view f _ _ _ y (k0_off1_eq _) (1 : Fin 2) (.inl ?_)).trans (ih2 f y hc)
        exact hc
      · obtain ⟨j, hj, hcell⟩ := exists_cell y n (by omega) (by omega) (by omega)
        refine (View.read_writes_cons_unit_of_mem arg6.view f _ _ _ y j (k0_off1_eq _) hj).trans ?_
        rw [moved1_block]
        exact congrArg _ hcell

section Two

variable (v0 v1 v2 : FVec F S64x1 .f32) (v15 : Vec F S64x1 .f32)

/-- The categories after the first step: the proposal `d` where the row accepts it, `x` elsewhere. -/
def kept (d x : IVec S64x8192 32) : IVec S64x8192 32 :=
  select (broadcastTo S64x8192 (k0_pay6 v0 v1 v2 v15) rowSpreads) d x

/-- Each of the eight trips is one of the second loop's. -/
theorem in2 (n : ℕ) (hn : n + 1 ≤ 8) : n < k0_t2_loop.trips := lt_of_lt_of_le (Nat.lt_of_succ_le hn) (by decide)

section Trip

variable (k : Fin k0_t2_loop.trips) (j : S64x1024.Idx) (f6 : BufTy.Contents (Elt F) arg6.view.ty) (x : IVec S64x8192 32)
  (hx : ∀ j : S64x1024.Idx, x (cell k.val j) = kept v0 v1 v2 v15 (arg6.view.read (Elt F) f6) (arg1.view.read (Elt F) X1) (cell k.val j))

/-- The second loop takes eight trips. -/
theorem lt2 : k.val < 8 := lt_of_lt_of_le k.isLt (by decide)

include hx in
/-- The current categories of the second loop. -/
theorem x2_block : trip_k0_t2.sl.r arg1 arg6 v0 v1 v2 v15 X1 k f6 j = x (cell k.val j) := by
  have h6 := (congrFun (View.readAt_unit arg6.view f6 (k0_off3_inb k) (k0_off3_eq k) (k0_off3_eq k ▸ k0_off3_inb k)) j).trans (window_cell _ _ (lt2 k) _ j)
  have h1 := (congrFun (View.readAt_unit arg1.view X1 (k0_off3_inb k) (k0_off3_eq k) (k0_off3_eq k ▸ k0_off3_inb k)) j).trans (window_cell _ _ (lt2 k) _ j)
  rw [hx]
  unfold trip_k0_t2.sl.r k0_pay265 kept
  dsimp only
  rw [shapeCast_self]
  show Scalar.select (broadcastTo S64x1024 _ _ j) _ _ = Scalar.select (broadcastTo S64x8192 _ _ _) _ _
  rw [column_block _ k.val (lt2 k) j]
  exact congrArg₂ _ h6 h1

/-- The linear weights the second loop reads. -/
theorem w2_block : broadcastTo S64x1024 (trip_k0_t2.sl.r_1 arg2 X2 k) broadcasts_S1x1024_S64x1024 j = weight (arg2.view.read (Elt F) X2) (cell k.val j) := by
  have h : trip_k0_t2.sl.r_1 arg2 X2 k = VecWindow.window (arg2.view.read (Elt F) X2) ![0, 1024 * k.val] S1x1024.size (k0_off4_eq k ▸ k0_off4_inb k) := by
    unfold trip_k0_t2.sl.r_1 k0_pay266
    dsimp only
    rw [shapeCast_self]
    exact View.readAt_unit arg2.view X2 (k0_off4_inb k) (k0_off4_eq k) _
  rw [h]
  exact weight_block _ _ (lt2 k) _ j

/-- The quadratic weights the second loop reads. -/
theorem q2_block : broadcastTo S64x1024 (trip_k0_t2.sl.r_2 arg3 X3 k) broadcasts_S1x1024_S64x1024 j = weight (arg3.view.read (Elt F) X3) (cell k.val j) := by
  have h : trip_k0_t2.sl.r_2 arg3 X3 k = VecWindow.window (arg3.view.read (Elt F) X3) ![0, 1024 * k.val] S1x1024.size (k0_off4_eq k ▸ k0_off4_inb k) := by
    unfold trip_k0_t2.sl.r_2 k0_pay267
    dsimp only
    rw [shapeCast_self]
    exact View.readAt_unit arg3.view X3 (k0_off4_inb k) (k0_off4_eq k) _
  rw [h]
  exact weight_block _ _ (lt2 k) _ j

include hx in
/-- The second loop's counters. -/
theorem n2_block : trip_k0_t2.sl.r_5 i arg1 arg6 v0 v1 v2 v15 X1 k f6 j = count 894150801#32 x (cell k.val j) := by
  have h : trip_k0_t2.sl.r_5 i arg1 arg6 v0 v1 v2 v15 X1 k f6 j = (BitVec.ofNat 32 (i 0).val * 64#32 + iota .tc S64x1024 32 [0] iota_S64x1024_d0_w32 j) * 524288#32
        + iota .tc S64x1024 32 [1] iota_S64x1024_d1_w32 j * 64#32
        + (trip_k0_t2.sl.r arg1 arg6 v0 v1 v2 v15 X1 k f6 j + ((0#32 + BitVec.ofNat 32 k.val * 1#32) * 65536#32 + 894150801#32)) := by
    sl_kernel_rfl
  exact h.trans (count_cell i _ _ k.val (lt2 k) j _ (x2_block arg1 arg6 X1 v0 v1 v2 v15 k j f6 x hx))

include hx in
/-- The second loop's proposed categories. -/
theorem moved2_block : xd2 i arg1 arg2 arg3 arg6 X1 X2 X3 v0 v1 v2 v15 k f6 j = movedAll 3134548294#32 894150801#32 2488261133#32 (arg2.view.read (Elt F) X2) (arg3.view.read (Elt F) X3) x (cell k.val j) := by
  rw [moved2, x2_block arg1 arg6 X1 v0 v1 v2 v15 k j f6 x hx, w2_block, q2_block, n2_block i arg1 arg6 X1 v0 v1 v2 v15 k j f6 x hx]; rfl

include hx in
/-- The second loop's forward log-probabilities. -/
theorem fwd2_block : trip_k0_t2.sl.r_29 i arg1 arg2 arg3 arg6 v0 v1 v2 v15 X1 X2 X3 k f6 j = fwdAll 3134548294#32 894150801#32 2488261133#32 (arg2.view.read (Elt F) X2) (arg3.view.read (Elt F) X3) x (cell k.val j) := by
  rw [fwd2, x2_block arg1 arg6 X1 v0 v1 v2 v15 k j f6 x hx, w2_block, q2_block, n2_block i arg1 arg6 X1 v0 v1 v2 v15 k j f6 x hx]; rfl

include hx in
/-- The second loop's reverse log-probabilities. -/
theorem rev2_block : trip_k0_t2.sl.r_35 i arg1 arg2 arg3 arg6 v0 v1 v2 v15 X1 X2 X3 k f6 j = revAll 3134548294#32 894150801#32 2488261133#32 (arg2.view.read (Elt F) X2) (arg3.view.read (Elt F) X3) x (cell k.val j) := by
  rw [rev2, moved2_block i arg1 arg2 arg3 arg6 X1 X2 X3 v0 v1 v2 v15 k j f6 x hx, x2_block arg1 arg6 X1 v0 v1 v2 v15 k j f6 x hx, w2_block, q2_block]; rfl

include hx in
/-- The second loop's changes of the model. -/
theorem gain2_block : gains2 i arg1 arg2 arg3 arg6 X1 X2 X3 v0 v1 v2 v15 k f6 j = gainAll 3134548294#32 894150801#32 2488261133#32 (arg2.view.read (Elt F) X2) (arg3.view.read (Elt F) X3) x (cell k.val j) := by
  rw [gain2, moved2_block i arg1 arg2 arg3 arg6 X1 X2 X3 v0 v1 v2 v15 k j f6 x hx, x2_block arg1 arg6 X1 v0 v1 v2 v15 k j f6 x hx, w2_block, q2_block]; rfl

/-- What one trip of the second loop adds to the carried sums. -/
theorem tripR2 (acc) (f5) : tripR_k0_t2 𝒱 c bd i arg1 harg1 arg2 harg2 arg3 harg3 arg4 harg4 arg5 harg5 arg6 harg6 v0 v1 v2 v15 X1 X2 X3 k acc f5 f6
    = (k0_pay3 acc.1 (trip_k0_t2.sl.r_29 i arg1 arg2 arg3 arg6 v0 v1 v2 v15 X1 X2 X3 k f6), k0_pay3 acc.2.1 (trip_k0_t2.sl.r_35 i arg1 arg2 arg3 arg6 v0 v1 v2 v15 X1 X2 X3 k f6),
      k0_pay3 acc.2.2 (gains2 i arg1 arg2 arg3 arg6 X1 X2 X3 v0 v1 v2 v15 k f6)) := by
  unfold tripR_k0_t2 trip_k0_t2; dsimp only; rfl

/-- What one trip of the second loop stores. -/
theorem tripL2 (acc) (f5) : tripL_k0_t2 𝒱 c bd i arg1 harg1 arg2 harg2 arg3 harg3 arg4 harg4 arg5 harg5 arg6 harg6 v0 v1 v2 v15 X1 X2 X3 k acc f5 f6
    = ([⟨Rect.unit (k0_off3 k) S64x1024.size (k0_off3_inb k), trip_k0_t2.sl.r arg1 arg6 v0 v1 v2 v15 X1 k f6⟩],
      [⟨Rect.unit (k0_off3 k) S64x1024.size (k0_off3_inb k), xd2 i arg1 arg2 arg3 arg6 X1 X2 X3 v0 v1 v2 v15 k f6⟩]) := by
  unfold tripL_k0_t2 trip_k0_t2; dsimp only
  unfold k0_pay511; dsimp only; rw [shapeCast_self]; rfl

end Trip

/-- What the second loop carries after `n` trips, and what it has left in the output's buffer and in the scratch: the
    first `n` blocks hold the current categories and their proposals, the later blocks of the scratch what it held. -/
theorem loop2 (G5 : BufTy.Contents (Elt F) arg5.view.ty) (G6 : BufTy.Contents (Elt F) arg6.view.ty) (x : IVec S64x8192 32)
    (hx : x = kept v0 v1 v2 v15 (arg6.view.read (Elt F) G6) (arg1.view.read (Elt F) X1)) (n : ℕ) (hn : n ≤ 8) :
    (st_k0_t2 𝒱 c bd i arg1 harg1 arg2 harg2 arg3 harg3 arg4 harg4 arg5 harg5 arg6 harg6 v0 v1 v2 v15 X1 X2 X3 G5 G6 (k0_pay7, k0_pay7, k0_pay7) n).1 = (total (fwdAll 3134548294#32 894150801#32 2488261133#32 (arg2.view.read (Elt F) X2) (arg3.view.read (Elt F) X3) x) n, total (revAll 3134548294#32 894150801#32 2488261133#32 (arg2.view.read (Elt F) X2) (arg3.view.read (Elt F) X3) x) n, total (gainAll 3134548294#32 894150801#32 2488261133#32 (arg2.view.read (Elt F) X2) (arg3.view.read (Elt F) X3) x) n)
    ∧ (∀ y : S64x8192.Idx, (y 1).val < 1024 * n → arg5.view.read (Elt F) (arg5.view.writes (Elt F) G5 (st_k0_t2 𝒱 c bd i arg1 harg1 arg2 harg2 arg3 harg3 arg4 harg4 arg5 harg5 arg6 harg6 v0 v1 v2 v15 X1 X2 X3 G5 G6 (k0_pay7, k0_pay7, k0_pay7) n).2.1) y = x y)
    ∧ (∀ y : S64x8192.Idx, (y 1).val < 1024 * n → arg6.view.read (Elt F) (arg6.view.writes (Elt F) G6 (st_k0_t2 𝒱 c bd i arg1 harg1 arg2 harg2 arg3 harg3 arg4 harg4 arg5 harg5 arg6 harg6 v0 v1 v2 v15 X1 X2 X3 G5 G6 (k0_pay7, k0_pay7, k0_pay7) n).2.2) y = movedAll 3134548294#32 894150801#32 2488261133#32 (arg2.view.read (Elt F) X2) (arg3.view.read (Elt F) X3) x y)
    ∧ (∀ y : S64x8192.Idx, 1024 * n ≤ (y 1).val → arg6.view.read (Elt F) (arg6.view.writes (Elt F) G6 (st_k0_t2 𝒱 c bd i arg1 harg1 arg2 harg2 arg3 harg3 arg4 harg4 arg5 harg5 arg6 harg6 v0 v1 v2 v15 X1 X2 X3 G5 G6 (k0_pay7, k0_pay7, k0_pay7) n).2.2) y = arg6.view.read (Elt F) G6 y) := by
  induction n with
  | zero => exact ⟨rfl, fun y hy => absurd hy (by omega), fun y hy => absurd hy (by omega), fun y _ => rfl⟩
  | succ n ih =>
    obtain ⟨ih1, ih5, ih6, ihr⟩ := ih (by omega)
    have hs := st_k0_t2_succ (F := F) 𝒱 c bd i arg1 harg1 arg2 harg2 arg3 harg3 arg4 harg4 arg5 harg5 arg6 harg6 v0 v1 v2 v15 X1 X2 X3 G5 G6 (k0_pay7, k0_pay7, k0_pay7) ⟨n, in2 n hn⟩
    rw [tripR2, tripL2] at hs
    dsimp only [List.cons_append, List.nil_append] at hs
    have hf : ∀ j : S64x1024.Idx, x (cell n j) = kept v0 v1 v2 v15
        (arg6.view.read (Elt F) (arg6.view.writes (Elt F) G6 (st_k0_t2 𝒱 c bd i arg1 harg1 arg2 harg2 arg3 harg3 arg4 harg4 arg5 harg5 arg6 harg6 v0 v1 v2 v15 X1 X2 X3 G5 G6 (k0_pay7, k0_pay7, k0_pay7) n).2.2)) (arg1.view.read (Elt F) X1) (cell n j) := by
      intro j
      have hr := ihr (cell n j) (by rw [cell_val n (by omega) j]; exact Nat.le_add_right _ _)
      rw [hx]
      unfold kept
      show Scalar.select _ _ _ = Scalar.select _ _ _
      rw [hr]
    rw [hs, ih1]
    generalize st_k0_t2 𝒱 c bd i arg1 harg1 arg2 harg2 arg3 harg3 arg4 harg4 arg5 harg5 arg6 harg6 v0 v1 v2 v15 X1 X2 X3 G5 G6 (k0_pay7, k0_pay7, k0_pay7) n = st at *
    generalize hf6 : arg6.view.writes (Elt F) G6 st.2.2 = f6 at hf
    refine ⟨?_, fun y hy => ?_, fun y hy => ?_, fun y hy => ?_⟩
    · exact Prod.ext (congrArg (k0_pay3 _) (funext fun j => fwd2_block i arg1 arg2 arg3 arg6 X1 X2 X3 v0 v1 v2 v15 ⟨n, in2 n hn⟩ j f6 x hf))
        (Prod.ext (congrArg (k0_pay3 _) (funext fun j => rev2_block i arg1 arg2 arg3 arg6 X1 X2 X3 v0 v1 v2 v15 ⟨n, in2 n hn⟩ j f6 x hf))
          (congrArg (k0_pay3 _) (funext fun j => gain2_block i arg1 arg2 arg3 arg6 X1 X2 X3 v0 v1 v2 v15 ⟨n, in2 n hn⟩ j f6 x hf)))
    · by_cases hc : (y 1).val < 1024 * n
      · exact (View.read_writes_cons_unit_of_not_mem arg5.view G5 _ _ _ y (k0_off3_eq ⟨n, in2 n hn⟩) (1 : Fin 2) (.inl hc)).trans (ih5 y hc)
      · obtain ⟨j, hj, hcell⟩ := exists_cell y n (by omega) (by omega) (by omega)
        refine (View.read_writes_cons_unit_of_mem arg5.view G5 _ _ _ y j (k0_off3_eq _) hj).trans ?_
        exact (x2_block arg1 arg6 X1 v0 v1 v2 v15 ⟨n, in2 n hn⟩ j f6 x hf).trans (congrArg x hcell)
    · by_cases hc : (y 1).val < 1024 * n
      · exact (View.read_writes_cons_unit_of_not_mem arg6.view G6 _ _ _ y (k0_off3_eq ⟨n, in2 n hn⟩) (1 : Fin 2) (.inl hc)).trans (ih6 y hc)
      · obtain ⟨j, hj, hcell⟩ := exists_cell y n (by omega) (by omega) (by omega)
        refine (View.read_writes_cons_unit_of_mem arg6.view G6 _ _ _ y j (k0_off3_eq _) hj).trans ?_
        exact (moved2_block i arg1 arg2 arg3 arg6 X1 X2 X3 v0 v1 v2 v15 ⟨n, in2 n hn⟩ j f6 x hf).trans (congrArg _ hcell)
    · refine (View.read_writes_cons_unit_of_not_mem arg6.view G6 _ _ _ y (k0_off3_eq _) (1 : Fin 2) (.inr ?_)).trans (ihr y (by omega))
      exact hy

end Two

section Three

variable (v0 v1 v2 : FVec F S64x1 .f32) (v15 : Vec F S64x1 .f32)

/-- Each of the eight trips is one of the third loop's. -/
theorem in3 (n : ℕ) (hn : n + 1 ≤ 8) : n < k0_t3_loop.trips := lt_of_lt_of_le (Nat.lt_of_succ_le hn) (by decide)

/-- What one trip of the third loop stores, at a coordinate. -/
theorem last_block (X6 : BufTy.Contents (Elt F) arg6.view.ty) (f5 : BufTy.Contents (Elt F) arg5.view.ty) (k : Fin k0_t3_loop.trips) (j : S64x1024.Idx) :
    k0_pay11 v0 v1 v2 v15 (arg6.view.readAt (Elt F) (Rect.unit (s := S64x8192) (k0_off5 k) S64x1024.size (k0_off5_inb k)).toLoadRect X6)
      (arg5.view.readAt (Elt F) (Rect.unit (s := S64x8192) (k0_off5 k) S64x1024.size (k0_off5_inb k)).toLoadRect f5) j
    = Scalar.select (broadcastTo S64x8192 (k0_pay6 v0 v1 v2 v15) rowSpreads (cell k.val j)) (arg6.view.read (Elt F) X6 (cell k.val j))
        (arg5.view.read (Elt F) f5 (cell k.val j)) := by
  have hk : k.val < 8 := lt_of_lt_of_le k.isLt (by decide)
  have h6 := (congrFun (View.readAt_unit arg6.view X6 (k0_off5_inb k) (k0_off5_eq k) (k0_off5_eq k ▸ k0_off5_inb k)) j).trans (window_cell _ _ hk _ j)
  have h5 := (congrFun (View.readAt_unit arg5.view f5 (k0_off5_inb k) (k0_off5_eq k) (k0_off5_eq k ▸ k0_off5_inb k)) j).trans (window_cell _ _ hk _ j)
  unfold k0_pay11
  dsimp only
  rw [shapeCast_self, shapeCast_self]
  show Scalar.select (broadcastTo S64x1024 _ _ j) _ _ = Scalar.select (broadcastTo S64x8192 _ _ _) _ _
  rw [column_block _ k.val hk j]
  exact congrArg₂ _ h6 h5

/-- What one trip of the third loop stores. -/
theorem tripL3 (X6) (k : Fin k0_t3_loop.trips) (f5) : tripL_k0_t3 (F := F) 𝒱 c bd i arg1 harg1 arg2 harg2 arg3 harg3 arg4 harg4 arg5 harg5 arg6 harg6 v0 v1 v2 v15 X6 k f5
    = [⟨Rect.unit (k0_off5 k) S64x1024.size (k0_off5_inb k), k0_pay11 v0 v1 v2 v15
        (arg6.view.readAt (Elt F) (Rect.unit (s := S64x8192) (k0_off5 k) S64x1024.size (k0_off5_inb k)).toLoadRect X6)
        (arg5.view.readAt (Elt F) (Rect.unit (s := S64x8192) (k0_off5 k) S64x1024.size (k0_off5_inb k)).toLoadRect f5)⟩] := by
  unfold tripL_k0_t3 trip_k0_t3; dsimp only

/-- What the third loop has left in the output's buffer after `n` trips: in the first `n` blocks the accepted proposals
    over what it held, in the later blocks what it held. -/
theorem loop3 (X6 : BufTy.Contents (Elt F) arg6.view.ty) (G5 : BufTy.Contents (Elt F) arg5.view.ty) (n : ℕ) (hn : n ≤ 8) :
    (∀ y : S64x8192.Idx, (y 1).val < 1024 * n → arg5.view.read (Elt F) (arg5.view.writes (Elt F) G5 (pb_k0_t3 𝒱 c bd i arg1 harg1 arg2 harg2 arg3 harg3 arg4 harg4 arg5 harg5 arg6 harg6 v0 v1 v2 v15 X6 G5 n)) y
      = kept v0 v1 v2 v15 (arg6.view.read (Elt F) X6) (arg5.view.read (Elt F) G5) y)
    ∧ (∀ y : S64x8192.Idx, 1024 * n ≤ (y 1).val → arg5.view.read (Elt F) (arg5.view.writes (Elt F) G5 (pb_k0_t3 𝒱 c bd i arg1 harg1 arg2 harg2 arg3 harg3 arg4 harg4 arg5 harg5 arg6 harg6 v0 v1 v2 v15 X6 G5 n)) y = arg5.view.read (Elt F) G5 y) := by
  induction n with
  | zero => exact ⟨fun y hy => absurd hy (by omega), fun y _ => rfl⟩
  | succ n ih =>
    obtain ⟨ih5, ihr⟩ := ih (by omega)
    have hs := pb_k0_t3_succ (F := F) 𝒱 c bd i arg1 harg1 arg2 harg2 arg3 harg3 arg4 harg4 arg5 harg5 arg6 harg6 v0 v1 v2 v15 X6 G5 ⟨n, in3 n hn⟩
    rw [tripL3] at hs
    dsimp only [List.cons_append, List.nil_append] at hs
    rw [hs]
    generalize pb_k0_t3 𝒱 c bd i arg1 harg1 arg2 harg2 arg3 harg3 arg4 harg4 arg5 harg5 arg6 harg6 v0 v1 v2 v15 X6 G5 n = st at *
    refine ⟨fun y hy => ?_, fun y hy => ?_⟩
    · by_cases hc : (y 1).val < 1024 * n
      · exact (View.read_writes_cons_unit_of_not_mem arg5.view G5 _ _ _ y (k0_off5_eq ⟨n, in3 n hn⟩) (1 : Fin 2) (.inl hc)).trans (ih5 y hc)
      · obtain ⟨j, hj, hcell⟩ := exists_cell y n (by omega) (by omega) (by omega)
        refine (View.read_writes_cons_unit_of_mem arg5.view G5 _ _ _ y j (k0_off5_eq _) hj).trans ?_
        refine (last_block arg5 arg6 v0 v1 v2 v15 X6 _ ⟨n, in3 n hn⟩ j).trans ?_
        dsimp only
        rw [hcell, ihr y (by omega)]
        rfl
    · refine (View.read_writes_cons_unit_of_not_mem arg5.view G5 _ _ _ y (k0_off5_eq _) (1 : Fin 2) (.inr ?_)).trans (ihr y (by omega))
      exact hy

end Three

end

end Cert.KernelIdeal.Gen
-- ==== Proof.Launch.lean ====
/-
  The kernel's launch: the run of the body read back (`Run.lean`, `Blocks.lean`) as the proof data of the pipeline, and with
  it every execution of @main, which ends with the output array at the two steps of the sampler.
-/
module

public import proofs.«01_k».proof.Proof.Run
public import proofs.«01_k».proof.Proof.Blocks
public import Idealize.ShloMosaic.Lib.Claim

@[expose] public section

set_option maxRecDepth 65536

noncomputable section

namespace Cert.KernelIdeal.Sample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Read back, the pieces of the run are the two steps of the sampler, whatever the output's buffer and the scratch held. -/
theorem read_sampleRun (c : Dev nD) (i : grid0.Coords) (arg1 : Memref sig .tc .vmem S64x8192 .i32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S64x2 .f32) (harg4 : arg4.IsWhole) (arg5 : Memref sig .tc .vmem S64x8192 .i32) (harg5 : arg5.IsWhole) (arg6 : Memref sig .tc .vmem S64x8192 .i32) (harg6 : arg6.IsWhole)
    (x0 : Vec F S64x8192 .i32) (x1 : Vec F S1x8192 .f32) (x2 : Vec F S1x8192 .f32) (x3 : Vec F S64x2 .f32)
    (f4 : BufTy.Contents (Elt F) arg5.view.ty) (fs0 : BufTy.Contents (Elt F) arg6.view.ty) :
    arg5.view.read (Elt F) (arg5.view.writes (Elt F) f4 (sampleRun c i arg1 harg1 arg2 harg2 arg3 harg3 arg4 harg4 arg5 harg5 arg6 harg6 x0 x1 x2 x3 f4 fs0).1)
      = kout x0 x1 x2 x3 := by
  unfold sampleRun
  dsimp only
  rw [show Scf.trips (0#32) (Scalar.addi 0#32 8#32) 1#32 = 8 by decide +kernel]
  obtain ⟨a1, m1⟩ := loop1 Variants.none c none i arg1 harg1 arg2 harg2 arg3 harg3 arg4 harg4 arg5 harg5 arg6 harg6 (harg1.unread x0) (harg2.unread x1) (harg3.unread x2) 8 le_rfl
  generalize st_k0_t1 Variants.none c none i arg1 harg1 arg2 harg2 arg3 harg3 arg4 harg4 arg5 harg5 arg6 harg6 (harg1.unread x0) (harg2.unread x1) (harg3.unread x2) (k0_pay2, k0_pay2, k0_pay2) 8 = S1 at *
  rw [harg1.read_unread, harg2.read_unread, harg3.read_unread] at a1 m1
  have m1' : arg6.view.read (Elt F) (arg6.view.writes (Elt F) fs0 S1.2) = movedAll 1832780943#32 270669613#32 1724713080#32 x1 x2 x0 :=
    funext fun y => m1 fs0 y (y 1).isLt
  have u0 : arg4.view.readAt (Elt F) (Rect.unit ![0, 0] ![64, 1] inb_S64x2_S64x1_0_0).toLoadRect (harg4.unread x3)
      = VecWindow.window x3 ![0, 0] ![64, 1] inb_S64x2_S64x1_0_0 := by
    rw [View.readAt_unit arg4.view _ inb_S64x2_S64x1_0_0 rfl inb_S64x2_S64x1_0_0, harg4.read_unread]
  have u1 : arg4.view.readAt (Elt F) (Rect.unit ![0, 1] ![64, 1] inb_S64x2_S64x1_0_1).toLoadRect (harg4.unread x3)
      = VecWindow.window x3 ![0, 1] ![64, 1] inb_S64x2_S64x1_0_1 := by
    rw [View.readAt_unit arg4.view _ inb_S64x2_S64x1_0_1 rfl inb_S64x2_S64x1_0_1, harg4.read_unread]
  rw [u0, u1, View.writes_append, View.writes_append]
  have h2 := loop2 Variants.none c none i arg1 harg1 arg2 harg2 arg3 harg3 arg4 harg4 arg5 harg5 arg6 harg6 (harg1.unread x0) (harg2.unread x1) (harg3.unread x2) S1.1.1 S1.1.2.1 S1.1.2.2
    (VecWindow.window x3 ![0, 0] ![64, 1] inb_S64x2_S64x1_0_0) f4 (arg6.view.writes (Elt F) fs0 S1.2)
    (kstep 1832780943#32 270669613#32 1724713080#32 x1 x2 (VecWindow.window x3 ![0, 0] ![64, 1] inb_S64x2_S64x1_0_0) x0)
    (by rw [m1', harg1.read_unread, a1]; rfl) 8 le_rfl
  generalize st_k0_t2 Variants.none c none i arg1 harg1 arg2 harg2 arg3 harg3 arg4 harg4 arg5 harg5 arg6 harg6 S1.1.1 S1.1.2.1 S1.1.2.2 (VecWindow.window x3 ![0, 0] ![64, 1] inb_S64x2_S64x1_0_0)
    (harg1.unread x0) (harg2.unread x1) (harg3.unread x2) f4 (arg6.view.writes (Elt F) fs0 S1.2) (k0_pay7, k0_pay7, k0_pay7) 8 = S2 at *
  obtain ⟨a2, c2, m2, -⟩ := h2
  rw [harg2.read_unread, harg3.read_unread] at a2 m2
  refine (funext fun y => (loop3 Variants.none c none i arg1 harg1 arg2 harg2 arg3 harg3 arg4 harg4 arg5 harg5 arg6 harg6 S2.1.1 S2.1.2.1 S2.1.2.2 (VecWindow.window x3 ![0, 1] ![64, 1] inb_S64x2_S64x1_0_1)
    (arg6.view.writes (Elt F) (arg6.view.writes (Elt F) fs0 S1.2) S2.2.2) (arg5.view.writes (Elt F) f4 S2.2.1) 8 le_rfl).1 y (y 1).isLt).trans ?_
  rw [funext fun y => c2 y (y 1).isLt, funext fun y => m2 y (y 1).isLt, a2]
  rfl

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the output's at the two steps of the sampler; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => kout (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = kout (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  unfold owns
  icases HS0 with ⟨%ds, %fs0, -, HS0⟩
  icases H4 with ⟨%f4, -, H4⟩
  iapply ((sampleRun c (grid0.coords t) _ (hs0_0 t) _ (hs0_1 t) _ (hs0_2 t) _ (hs0_3 t) _ (hs0_4 t) _ (Memref.isWhole_whole _) (iblk m c 0 t) (iblk m c 1 t) (iblk m c 2 t) (iblk m c 3 t) f4 fs0).2 Set.univ _)
  unfold owns
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexists _; isplitr
  swap; · iexact H4
  ipureintro; exact read_sampleRun c _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Sample
-- ==== Proof.Result.lean ====
/-
  The kernel's run with its result array at the two steps of the sampler over the arguments: each window's one block is its
  whole array, and the weights reach the launch reshaped to rows.
-/
module

public import proofs.«01_k».proof.Proof.Launch

@[expose] public section

set_option maxRecDepth 16384

noncomputable section

namespace Cert.KernelIdeal.Sample

open Idealize.ShloMosaic Idealize.ShloMosaic.TcCoe Idealize.ShloMosaic.Tactic
open Idealize.SL.Sem
open Cert.KernelIdeal.Gen

variable {F : FTy → Type} [FloatOps F]

variable (m : (ℓ : Loc nD τ sig) → Buf (Elt F) ℓ) (ρ : Dev nD → PrngReg)

/-- The weights as the launch reads them: one row. -/
def row (w : Vec F S8192 .f32) : Vec F S1x8192 .f32 := shapeCast S1x8192 w shapeCasts_S8192_S1x8192

/-- The acceptance draws as the program holds them. -/
def draws : Vec F S64x2 .f32 := fun i => FloatOps.ofBits .f32 (lit0 (S64x2.rowMajor i))

theorem V_v0 (c : Dev nD) : V m c main_v0 = row (m ((c : Thread nD τ).loc main_arg1)) := by
  unfold_abbrev_sides; after_results; rfl

theorem V_v1 (c : Dev nD) : V m c main_v1 = row (m ((c : Thread nD τ).loc main_arg2)) := by
  unfold_abbrev_sides; after_results; rfl

theorem V_cst (c : Dev nD) : V m c main_cst = draws := by
  unfold_abbrev_sides; after_results; rfl

/-- Each window's block index at the one grid point is zero on every axis. -/
theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)
theorem idx_zero3 : ∀ t : Fin cfg0.N, win0_3.index t (0 : Fin 2) = 0 ∧ win0_3.index t (1 : Fin 2) = 0 :=
  (by decide +kernel : ∀ t : Fin grid0.N, _)
theorem idx_zero4 : ∀ t : Fin cfg0.N, win0_4.index t (0 : Fin 2) = 0 ∧ win0_4.index t (1 : Fin 2) = 0 :=
  (by decide +kernel : ∀ t : Fin grid0.N, _)

/-- So an index of a window's block is the same index of its array. -/
theorem emb0 (t : Fin cfg0.N) (j : S64x8192.Idx) : ((cfg0.win 0).blk t).view.emb j = j := by
  obtain ⟨e0, e1⟩ := idx_zero0 t
  funext a; apply Fin.ext
  match a with
  | ⟨0, _⟩ => show win0_0.index t (0 : Fin 2) * 64 + 1 * (j 0).val = (j 0).val; omega
  | ⟨1, _⟩ => show win0_0.index t (1 : Fin 2) * 8192 + 1 * (j 1).val = (j 1).val; omega
theorem emb1 (t : Fin cfg0.N) (j : S1x8192.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega
theorem emb2 (t : Fin cfg0.N) (j : S1x8192.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 8192 + 1 * (j 1).val = (j 1).val; omega
theorem emb3 (t : Fin cfg0.N) (j : S64x2.Idx) : ((cfg0.win 3).blk t).view.emb j = j := by
  obtain ⟨e0, e1⟩ := idx_zero3 t
  funext a; apply Fin.ext
  match a with
  | ⟨0, _⟩ => show win0_3.index t (0 : Fin 2) * 64 + 1 * (j 0).val = (j 0).val; omega
  | ⟨1, _⟩ => show win0_3.index t (1 : Fin 2) * 2 + 1 * (j 1).val = (j 1).val; omega
theorem emb4 (t : Fin cfg0.N) (j : S64x8192.Idx) : ((cfg0.win 4).blk t).view.emb j = j := by
  obtain ⟨e0, e1⟩ := idx_zero4 t
  funext a; apply Fin.ext
  match a with
  | ⟨0, _⟩ => show win0_4.index t (0 : Fin 2) * 64 + 1 * (j 0).val = (j 0).val; omega
  | ⟨1, _⟩ => show win0_4.index t (1 : Fin 2) * 8192 + 1 * (j 1).val = (j 1).val; omega

/-- So an input window's block is its array as the region finds it. -/
theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_v0 := by
  funext j; show V m c main_v0 (((cfg0.win 1).blk t).view.emb j) = V m c main_v0 j; rw [emb1]
theorem iblk2_eq (c : Dev nD) (t : Fin cfg0.N) : iblk m c 2 t = V m c main_v1 := by
  funext j; show V m c main_v1 (((cfg0.win 2).blk t).view.emb j) = V m c main_v1 j; rw [emb2]
theorem iblk3_eq (c : Dev nD) (t : Fin cfg0.N) : iblk m c 3 t = V m c main_cst := by
  funext j; show V m c main_cst (((cfg0.win 3).blk t).view.emb j) = V m c main_cst j; rw [emb3]

/-- The kernel's result over the arguments' contents. -/
def result (x : IVec S64x8192 32) (w1 w2 : Vec F S8192 .f32) : IVec S64x8192 32 := kout x (row w1) (row w2) draws

/-- What the point writes back is its block of the result. -/
theorem flushed4_eq (c : Dev nD) (t : Fin cfg0.N) :
    (dats m 0 c).flushed 4 t = ((cfg0.win 4).blk t).view.read (Elt F)
      (result (m ((c : Thread nD τ).loc main_arg0)) (m ((c : Thread nD τ).loc main_arg1)) (m ((c : Thread nD τ).loc main_arg2))) := by
  show (cfg0.win 4).cut (grid0.coords t) ((dats m 0 c).after 4 t) = _
  rw [after0_4, iblk0_eq, iblk1_eq, iblk2_eq, iblk3_eq, V_main_arg0, V_v0, V_v1, V_cst]
  funext j
  show result _ _ _ j = result _ _ _ (((cfg0.win 4).blk t).view.emb j)
  rw [emb4]

/-- Every index of the result array is in the point's block. -/
theorem covered4 (i : S64x8192.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

/-- What the launch leaves, read at the result and at the arguments. -/
theorem of_post {r : _} (h : Pipeline.FramePost cfgs (dats (F := F) m) 0 (V m) r) (c : Dev nD) :
    r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 4).trans ((dats m 0 c).arrAt_eq_of_cover 4 _ (fun t _ => flushed4_eq m c t) covered4),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- Every execution of the kernel's program ends with the result array at the two steps of the sampler over the arguments,
    the arguments unchanged. -/
theorem run : θ_run defs (onTc (τ := τ) (main (F := F))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h => of_post m h) (run_main m ρ)

/-- The frame: every execution terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (of_post m h.1 c).2, h.2⟩) (run_main_quiescent m ρ)

end Cert.KernelIdeal.Sample
-- ==== Proof.KernelFrame.lean ====
/-
  The kernel's own frame. Its idealization rewrites nothing, so the two printed programs are one text under two names, and
  the frame of the one, proved for any floats, is the frame of the other.
-/
module

public import proofs.«01_k».proof.Proof.Result
public import proofs.«01_k».proof.Proof.Gen.Kernel
public import proofs.«01_k».proof.Defs
public import Idealize.ShloMosaic.Lib.Tactic

@[expose] public section

noncomputable section

namespace Cert.Kernel.Sample

open Idealize.ShloMosaic Idealize.ShloMosaic.TcCoe Idealize.SL.Sem Idealize.ShloMosaic.Tactic

/-- The frame of the program printed as `Kernel`, over the floats `F`. -/
def Frame (F : FTy → Type) [FloatOps F] : Prop :=
  ∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The frame of the program printed as `KernelIdeal`, over the floats `F`. -/
def FrameIdeal (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two statements are one. -/
theorem frame_same (F : FTy → Type) [FloatOps F] : Frame F = FrameIdeal F := by sl_kernel_rfl

/-- Every execution of the kernel's program terminates with the arguments unchanged and every counter at zero. -/
theorem frame (F : FTy → Type) [FloatOps F] : Frame F :=
  (frame_same F).mpr fun m ρ => Cert.KernelIdeal.Sample.frame m ρ

end Cert.Kernel.Sample
-- ==== Proof.Reference.lean ====
/-
  One step of the reference's sampler as a function of its draws and its arguments, in the reference's own operations, and
  the reference's result as two of these steps.
-/
module

public import proofs.«01_k».proof.Proof.Gen.ReferenceIdeal.Read
public import Idealize.ShloMosaic.Lib.Tactic

@[expose] public section

set_option maxRecDepth 16384

noncomputable section

namespace Cert.ReferenceIdeal.Sample

open Cert.ReferenceIdeal Cert.ReferenceIdeal.Gen Cert.ReferenceIdeal.Read Idealize.ShloMosaic Idealize.ShloMosaic.TcCoe
open Idealize.SL.Sem Idealize.ShloMosaic.StableHlo Idealize.ShloMosaic.Tactic

variable {F : FTy → Type} [FloatOps F]

/-- A coordinate's value, at each of its categories. -/
def over {α : Type} (v : S64x8192.Idx → α) : S64x8192x64.Idx → α :=
  broadcastInDim S64x8192x64 ![0, 1, 2] bcast_S64x8192x1_S64x8192x64_0_1_2 (broadcastInDim S64x8192x1 ![0, 1] bcast_S64x8192_S64x8192x1_0_1 v)

/-- A category's value, at each coordinate. -/
def each {α : Type} (v : S64.Idx → α) : S64x8192x64.Idx → α :=
  broadcastInDim S64x8192x64 ![0, 1, 2] bcast_S1x1x64_S64x8192x64_0_1_2 (broadcastInDim S1x1x64 ![2] bcast_S64_S1x1x64_2 v)

/-- One value everywhere. -/
def whole {α : Type} (v : S_.Idx → α) : S64x8192x64.Idx → α := broadcastInDim S64x8192x64 ![] bcast_S_S64x8192x64 v

/-- A weight, at each row. -/
def rows {α : Type} (v : S8192.Idx → α) : S64x8192.Idx → α :=
  broadcastInDim S64x8192 ![0, 1] bcast_S1x8192_S64x8192_0_1 (broadcastInDim S1x8192 ![1] bcast_S8192_S1x8192_1 v)

/-- A row's value, at each of its coordinates. -/
def along {α : Type} (v : S64.Idx → α) : S64x8192.Idx → α := broadcastInDim S64x8192 ![0] bcast_S64_S64x8192_0 v

/-- The gradient of the model. -/
def grad (x : IVec S64x8192 32) (w1 w2 : FVec F S8192 .f32) : FVec F S64x8192 .f32 :=
  addf (addf
      (mulf (sitofp (F := F) .f32 x) (mulf (along (mulf (broadcastInDim S64 ![] bcast_S_S64 (constant S_ .f32 0x3F000000#32)) (Host.negf (broadcastInDim S64 ![] bcast_S_S64 (constant S_ .f32 0x3F800000#32))))) (rows w2)))
      (mulf (mulf (along (mulf (broadcastInDim S64 ![] bcast_S_S64 (constant S_ .f32 0x3F000000#32)) (Host.negf (broadcastInDim S64 ![] bcast_S_S64 (constant S_ .f32 0x3F800000#32))))) (rows w2)) (sitofp .f32 x)))
    (mulf (along (broadcastInDim S64 ![] bcast_S_S64 (constant S_ .f32 0x3F800000#32))) (rows w1))

/-- Half a gradient. -/
def half (g : FVec F S64x8192 .f32) : FVec F S64x8192 .f32 :=
  Host.divf g (broadcastInDim S64x8192 ![] bcast_S_S64x8192 (constant S_ .f32 0x40000000#32))

/-- A category less a coordinate's current one. -/
def away (x : IVec S64x8192 32) : FVec F S64x8192x64 .f32 := subf (each (sitofp (F := F) .f32 (iotaInDim S64 32 0))) (over (sitofp (F := F) .f32 x))

/-- The proposal's logits under a slope. -/
def logits (x : IVec S64x8192 32) (g : FVec F S64x8192 .f32) : FVec F S64x8192x64 .f32 :=
  select (cmpf .ole (Host.absf (away (F := F) x)) (whole (constant S_ .f32 0x40000000#32)))
    (subf (mulf (over g) (away x)) (mulf (mulf (away x) (away x)) (whole (constant S_ .f32 0x40200000#32))))
    (whole (constant S_ .f32 0xFF800000#32))

/-- The first category of the greatest score. -/
def pick (z : FVec F S64x8192x64 .f32) : IVec S64x8192 32 :=
  Host.reduce IntOp.minsi
    (select (cmpf .oeq z (over (Host.reduce FloatOps.maximumf z (constant S_ .f32 0xFF800000#32) reducesTo_S64x8192x64_S64x8192_d2 h_S_)))
      (each (iotaInDim S64 32 0)) (whole (constantI S_ 32 64#32)))
    (constantI S_ 32 2147483647#32) reducesTo_S64x8192x64_S64x8192_d2 h_S_

/-- The logits less the greatest of them. -/
def shifted (l : FVec F S64x8192x64 .f32) : FVec F S64x8192x64 .f32 :=
  subf l (over (maximumf (broadcastInDim S64x8192 ![] bcast_S_S64x8192 (constant S_ .f32 0xFF800000#32))
    (Host.reduce FloatOps.maximumf l (constant S_ .f32 0xFF800000#32) reducesTo_S64x8192x64_S64x8192_d2 h_S_)))

/-- The log-probabilities of logits. -/
def logSoftmax (l : FVec F S64x8192x64 .f32) : FVec F S64x8192x64 .f32 :=
  subf (shifted l) (broadcastInDim S64x8192x64 ![0, 1, 2] bcast_S64x8192x1_S64x8192x64_0_1_2
    (Host.log (broadcastInDim S64x8192x1 ![0, 1] bcast_S64x8192_S64x8192x1_0_1
      (Host.reduceAdd (Host.exp (shifted l)) (constant S_ .f32 0x00000000#32) reducesTo_S64x8192x64_S64x8192_d2 h_S_))))

/-- The log-probability of the categories `t`, coordinate by coordinate. -/
def logAt (l : FVec F S64x8192x64 .f32) (t : IVec S64x8192 32) : FVec F S64x8192 .f32 :=
  Host.reduceAdd (select (cmpi .eq (each (iotaInDim S64 32 0)) (over t)) (logSoftmax l) (whole (constant S_ .f32 0x00000000#32)))
    (constant S_ .f32 0x00000000#32) reducesTo_S64x8192x64_S64x8192_d2 h_S_

/-- A row's sum. -/
def sumRow (v : FVec F S64x8192 .f32) : FVec F S64 .f32 :=
  Host.reduceAdd v (constant S_ .f32 0x00000000#32) reducesTo_S64x8192_S64_d1 h_S_

/-- The model's value at each row. -/
def model (x : IVec S64x8192 32) (w1 w2 : FVec F S8192 .f32) : FVec F S64 .f32 :=
  subf (sumRow (mulf (sitofp .f32 x) (rows w1)))
    (mulf (broadcastInDim S64 ![] bcast_S_S64 (constant S_ .f32 0x3F000000#32)) (sumRow (mulf (mulf (sitofp .f32 x) (sitofp .f32 x)) (rows w2))))

/-- The row's state after the acceptance test: the proposal where it is accepted, the present state elsewhere. -/
def blend (a : IVec S64 1) (t x : IVec S64x8192 32) : IVec S64x8192 32 :=
  fptosi 32 (addf
    (mulf (sitofp (F := F) .f32 t) (broadcastInDim S64x8192 ![0, 1] bcast_S64x1_S64x8192_0_1 (broadcastInDim S64x1 ![0] bcast_S64_S64x1_0 (uitofp .f32 a))))
    (mulf (sitofp .f32 x) (broadcastInDim S64x8192 ![0, 1] bcast_S64x1_S64x8192_0_1
      (subf (broadcastInDim S64x1 ![] bcast_S_S64x1 (constant S_ .f32 0x3F800000#32)) (broadcastInDim S64x1 ![0] bcast_S64_S64x1_0 (uitofp .f32 a))))))

/-- The acceptance test of the proposal `t` from `x`. -/
def accepted (u : FVec F S64 .f32) (w1 w2 : FVec F S8192 .f32) (t x : IVec S64x8192 32) : IVec S64 1 :=
  cmpf .ogt (Host.exp (subf (addf (subf (model t w1 w2) (model x w1 w2)) (sumRow (logAt (logits t (half (grad t w1 w2))) x)))
    (sumRow (logAt (logits x (grad x w1 w2)) t)))) u

/-- The proposal from `x`. -/
def proposal (n : FVec F S64x8192x64 .f32) (w1 w2 : FVec F S8192 .f32) (x : IVec S64x8192 32) : IVec S64x8192 32 :=
  pick (addf n (logits x (grad x w1 w2)))

/-- One step of the sampler. -/
def step (n : FVec F S64x8192x64 .f32) (u : FVec F S64 .f32) (w1 w2 : FVec F S8192 .f32) (x : IVec S64x8192 32) : IVec S64x8192 32 :=
  blend (F := F) (accepted u w1 w2 (proposal n w1 w2 x) x) (proposal n w1 w2 x) x

variable (x0 : (⟨S64x8192, .i32⟩ : BufTy).Contents (Elt F)) (x1 x2 : (⟨S8192, .f32⟩ : BufTy).Contents (Elt F))

theorem first_grad : val_main_v260 x0 x1 x2 = grad x0 x1 x2 := by sl_kernel_rfl
theorem first_logits : val_main_v284 x0 x1 x2 = logits x0 (grad x0 x1 x2) := by sl_kernel_rfl
theorem first_proposal : val_main_v293 x0 x1 x2 = proposal val_main_v230 x1 x2 x0 := by sl_kernel_rfl
theorem first_forward : val_main_v303 x0 x1 x2 = sumRow (logAt (logits x0 (grad x0 x1 x2)) (proposal val_main_v230 x1 x2 x0)) := by sl_kernel_rfl
theorem first_back : val_main_v333 x0 x1 x2 = half (grad (val_main_v293 x0 x1 x2) x1 x2) := by sl_kernel_rfl
theorem first_accepted : val_main_v398 x0 x1 x2 = accepted val_main_v232 x1 x2 (val_main_v293 x0 x1 x2) x0 := by sl_kernel_rfl
/-- The first step's result. -/
theorem first : val_main_v411 x0 x1 x2 = step val_main_v230 val_main_v232 x1 x2 x0 := by sl_kernel_rfl
theorem second_proposal : val_main_v476 x0 x1 x2 = proposal val_main_v413 x1 x2 (val_main_v411 x0 x1 x2) := by sl_kernel_rfl
theorem second_accepted : val_main_v581 x0 x1 x2 = accepted val_main_v415 x1 x2 (val_main_v476 x0 x1 x2) (val_main_v411 x0 x1 x2) := by sl_kernel_rfl
/-- The reference's result is the second step's from the first's. -/
theorem second : val_main_v594 x0 x1 x2 = step val_main_v413 val_main_v415 x1 x2 (step val_main_v230 val_main_v232 x1 x2 x0) := by sl_kernel_rfl

end Cert.ReferenceIdeal.Sample
-- ==== Proof.Window.lean ====
/-
  The proposal at one coordinate, over the extended reals: the logits within two of the current category, their mass, and the
  kernel's five-term window read as these.
-/
module

public import proofs.«01_k».proof.Proof.Element
public import Idealize.ShloMosaic.PureOps.Ideal.Laws

@[expose] public section

noncomputable section

open Idealize.ShloMosaic

namespace Cert.Sampler

/-! ## Literals -/

theorem lit_eq (b : W) : lit (F := Ideal) b = Ideal.ofBits .f32 b := rfl
theorem lit_zero : lit (F := Ideal) 0x00000000#32 = 0 := Ideal.ofBits_zero_f32
theorem lit_one : lit (F := Ideal) 0x3F800000#32 = ((1 : ℝ) : EReal) := by
  rw [lit_eq]; simp [Ideal.ofBits, Ideal.ieee, -EReal.coe_mul]; norm_num
theorem lit_two : lit (F := Ideal) 0x40000000#32 = ((2 : ℝ) : EReal) := by
  rw [lit_eq]; simp [Ideal.ofBits, Ideal.ieee, -EReal.coe_mul]; norm_num
theorem lit_half : lit (F := Ideal) 0x3F000000#32 = ((1 / 2 : ℝ) : EReal) := by
  rw [lit_eq]; simp [Ideal.ofBits, Ideal.ieee, -EReal.coe_mul]; norm_num
theorem lit_step : lit (F := Ideal) 0x40200000#32 = ((5 / 2 : ℝ) : EReal) := by
  rw [lit_eq]; simp [Ideal.ofBits, Ideal.ieee, -EReal.coe_mul]; norm_num
theorem lit_ten : lit (F := Ideal) 0x41200000#32 = ((10 : ℝ) : EReal) := by
  rw [lit_eq]; simp [Ideal.ofBits, Ideal.ieee, -EReal.coe_mul]; norm_num
theorem lit_neg_one : lit (F := Ideal) 0xBF800000#32 = ((-1 : ℝ) : EReal) := by
  rw [lit_eq]; simp [Ideal.ofBits, Ideal.ieee, -EReal.coe_mul]; norm_num
theorem lit_neg_two : lit (F := Ideal) 0xC0000000#32 = ((-2 : ℝ) : EReal) := by
  rw [lit_eq]; simp [Ideal.ofBits, Ideal.ieee, -EReal.coe_mul]; norm_num
theorem lit_bot : lit (F := Ideal) 0xFF800000#32 = (⊥ : EReal) := by
  rw [lit_eq]; simp [Ideal.ofBits, Ideal.ieee]

/-! ## Words -/

/-- A category's word. -/
def cat (v : ℕ) : W := BitVec.ofNat 32 v

theorem cat_toInt (v : ℕ) (h : v < 2 ^ 31) : (cat v).toInt = v := by
  unfold cat; rw [BitVec.toInt_ofNat', Int.bmod_eq_of_le] <;> omega

theorem cat_float (v : ℕ) (h : v < 2 ^ 31) : FloatOps.sitofp (F := Ideal) .f32 (cat v) = ((v : ℝ) : EReal) := by
  show (((cat v).toInt : ℝ) : EReal) = _; rw [cat_toInt v h]; norm_cast

theorem sge_cat (v t : ℕ) (hv : v < 2 ^ 31) (ht : t < 2 ^ 31) : IntOp.cmpi .sge (cat v) (cat t) = BitVec.ofBool (decide (t ≤ v)) := by
  show BitVec.ofBool (BitVec.sle (cat t) (cat v)) = _
  rw [BitVec.sle_eq_decide, cat_toInt v hv, cat_toInt t ht]; simp

theorem sle_cat (v t : ℕ) (hv : v < 2 ^ 31) (ht : t < 2 ^ 31) : IntOp.cmpi .sle (cat v) (cat t) = BitVec.ofBool (decide (v ≤ t)) := by
  show BitVec.ofBool (BitVec.sle (cat v) (cat t)) = _
  rw [BitVec.sle_eq_decide, cat_toInt v hv, cat_toInt t ht]; simp

theorem eq_cat (v t : ℕ) (hv : v < 2 ^ 31) (ht : t < 2 ^ 31) : IntOp.cmpi .eq (cat v) (cat t) = BitVec.ofBool (decide (v = t)) := by
  show BitVec.ofBool (cat v == cat t) = _
  congr 1
  rw [beq_eq_decide]
  refine decide_eq_decide.mpr ⟨fun h => ?_, fun h => by rw [h]⟩
  have := congrArg BitVec.toInt h
  rw [cat_toInt v hv, cat_toInt t ht] at this; exact_mod_cast this

/-- A choice on a decided bit. -/
theorem select_bool {α : Type} (p : Prop) [Decidable p] (a b : α) : Scalar.select (BitVec.ofBool (decide p)) a b = if p then a else b := by
  unfold Scalar.select; by_cases h : p <;> simp [h]

/-! ## The window -/

/-- The logit of a displacement under a slope. -/
def ell (g : ℝ) (k : ℤ) : ℝ := g * k - (k : ℝ) * k * (5 / 2)

/-- A category within two of the current one. -/
abbrev Near (v d : ℕ) : Prop := |(d : ℤ) - v| ≤ 2

/-- The logit of a category. -/
def logit (g : ℝ) (v d : ℕ) : EReal := if Near v d then ((ell g ((d : ℤ) - v) : ℝ) : EReal) else ⊥

/-- The mass of the logits. -/
def mass (g : ℝ) (v : ℕ) : ℝ := ∑ d : Fin 64, if Near v d.val then Real.exp (ell g ((d.val : ℤ) - v)) else 0

/-- The log-probability of a category. -/
def logProb (g : ℝ) (v d : ℕ) : ℝ := ell g ((d : ℤ) - v) - Real.log (mass g v)

/-- A displacement that stays among the categories. -/
abbrev Inside (v : ℕ) (k : ℤ) : Prop := 0 ≤ (v : ℤ) + k ∧ (v : ℤ) + k < 64

/-- A displacement's logit, `-∞` outside the categories. -/
def logitAt (g : ℝ) (v : ℕ) (k : ℤ) : EReal := if Inside v k then ((ell g k : ℝ) : EReal) else ⊥

/-- A displacement's share of the mass. -/
def term (g : ℝ) (v : ℕ) (k : ℤ) : ℝ := if Inside v k then Real.exp (ell g k) else 0

theorem near_sum (g : ℝ) (v : ℕ) (d : Fin 64) :
    (if Near v d.val then Real.exp (ell g ((d.val : ℤ) - v)) else 0)
      = ∑ k ∈ Finset.Icc (-2 : ℤ) 2, if k = (d.val : ℤ) - v then Real.exp (ell g k) else 0 := by
  rw [Finset.sum_ite_eq']
  simp only [Finset.mem_Icc, Near, abs_le]

theorem inside_sum (g : ℝ) (v : ℕ) (k : ℤ) :
    ∑ d : Fin 64, (if k = (d.val : ℤ) - v then Real.exp (ell g k) else 0) = term g v k := by
  unfold term
  by_cases h : Inside v k
  · rw [if_pos h, Finset.sum_eq_single (⟨((v : ℤ) + k).toNat, by omega⟩ : Fin 64)]
    · rw [if_pos]; show k = ((((v : ℤ) + k).toNat : ℕ) : ℤ) - v; omega
    · intro d _ hd
      rw [if_neg]; intro hk; apply hd; apply Fin.ext; show d.val = ((v : ℤ) + k).toNat; omega
    · intro hd; exact absurd (Finset.mem_univ _) hd
  · rw [if_neg h]
    refine Finset.sum_eq_zero fun d _ => if_neg fun hk => h ⟨by omega, by omega⟩

/-- The mass is the window's five shares. -/
theorem mass_eq (g : ℝ) (v : ℕ) : mass g v = term g v (-2) + term g v (-1) + term g v 0 + term g v 1 + term g v 2 := by
  unfold mass
  rw [Finset.sum_congr rfl fun d _ => near_sum g v d, Finset.sum_comm, Finset.sum_congr rfl fun k _ => inside_sum g v k]
  rw [show Finset.Icc (-2 : ℤ) 2 = {-2, -1, 0, 1, 2} by decide]
  simp [add_assoc]

theorem term_zero (g : ℝ) (v : ℕ) (h : v < 64) : term g v 0 = 1 := by
  unfold term; rw [if_pos (by constructor <;> omega)]; simp [ell]

theorem term_nonneg (g : ℝ) (v : ℕ) (k : ℤ) : 0 ≤ term g v k := by
  unfold term; split_ifs <;> positivity

theorem mass_pos (g : ℝ) (v : ℕ) (h : v < 64) : 0 < mass g v := by
  rw [mass_eq, term_zero g v h]
  have := term_nonneg g v (-2); have := term_nonneg g v (-1); have := term_nonneg g v 1; have := term_nonneg g v 2
  linarith

theorem exp_logitAt (g : ℝ) (v : ℕ) (k : ℤ) : FloatOps.exp (F := Ideal) (φ := .f32) (logitAt g v k) = ((term g v k : ℝ) : EReal) := by
  unfold logitAt term; rw [Ideal.exp_def]; split_ifs <;> simp

/-! ## The kernel's window -/

theorem lm2_eq (g : ℝ) (v : ℕ) (h : v < 64) : lm2 (F := Ideal) (cat v) (g : EReal) = logitAt g v (-2) := by
  unfold lm2 low logitAt
  rw [show (2#32 : W) = cat 2 from rfl, sge_cat v 2 (by omega) (by omega), select_bool, lit_bot, lit_neg_two, lit_ten]
  refine if_congr ⟨fun _ => ⟨by omega, by omega⟩, fun h => by omega⟩ ?_ rfl
  show (g : EReal) * ((-2 : ℝ) : EReal) - ((10 : ℝ) : EReal) = _
  rw [← EReal.coe_mul, ← EReal.coe_sub]; congr 1; unfold ell; push_cast; ring

theorem lm1_eq (g : ℝ) (v : ℕ) (h : v < 64) : lm1 (F := Ideal) (cat v) (g : EReal) = logitAt g v (-1) := by
  unfold lm1 low logitAt
  rw [show (1#32 : W) = cat 1 from rfl, sge_cat v 1 (by omega) (by omega), select_bool, lit_bot, lit_neg_one, lit_step]
  refine if_congr ⟨fun _ => ⟨by omega, by omega⟩, fun h => by omega⟩ ?_ rfl
  show (g : EReal) * ((-1 : ℝ) : EReal) - ((5 / 2 : ℝ) : EReal) = _
  rw [← EReal.coe_mul, ← EReal.coe_sub]; congr 1; unfold ell; push_cast; ring

theorem lp1_eq (g : ℝ) (v : ℕ) (h : v < 64) : lp1 (F := Ideal) (cat v) (g : EReal) = logitAt g v 1 := by
  unfold lp1 high logitAt
  rw [show (62#32 : W) = cat 62 from rfl, sle_cat v 62 (by omega) (by omega), select_bool, lit_bot, lit_one, lit_step]
  refine if_congr ⟨fun _ => ⟨by omega, by omega⟩, fun h => by omega⟩ ?_ rfl
  show (g : EReal) * ((1 : ℝ) : EReal) - ((5 / 2 : ℝ) : EReal) = _
  rw [← EReal.coe_mul, ← EReal.coe_sub]; congr 1; unfold ell; push_cast; ring

theorem lp2_eq (g : ℝ) (v : ℕ) (h : v < 64) : lp2 (F := Ideal) (cat v) (g : EReal) = logitAt g v 2 := by
  unfold lp2 high logitAt
  rw [show (61#32 : W) = cat 61 from rfl, sle_cat v 61 (by omega) (by omega), select_bool, lit_bot, lit_two, lit_ten]
  refine if_congr ⟨fun _ => ⟨by omega, by omega⟩, fun h => by omega⟩ ?_ rfl
  show (g : EReal) * ((2 : ℝ) : EReal) - ((10 : ℝ) : EReal) = _
  rw [← EReal.coe_mul, ← EReal.coe_sub]; congr 1; unfold ell; push_cast; ring

theorem logitAt_zero (g : ℝ) (v : ℕ) (h : v < 64) : logitAt g v 0 = 0 := by
  unfold logitAt; rw [if_pos (by constructor <;> omega)]; simp [ell]

/-- The kernel's normaliser is the mass. -/
theorem norm_eq (g : ℝ) (v : ℕ) (h : v < 64) : norm (F := Ideal) (cat v) (g : EReal) = ((mass g v : ℝ) : EReal) := by
  unfold norm
  rw [lm2_eq g v h, lm1_eq g v h, lp1_eq g v h, lp2_eq g v h, exp_logitAt, exp_logitAt, exp_logitAt, exp_logitAt, lit_one,
    mass_eq, term_zero g v h]
  show ((term g v (-2) : ℝ) : EReal) + ((term g v (-1) : ℝ) : EReal) + ((1 : ℝ) : EReal) + ((term g v 1 : ℝ) : EReal) + ((term g v 2 : ℝ) : EReal) = _
  simp only [← EReal.coe_add]

/-- A displacement's log-probability, as the kernel computes it. -/
theorem logp_eq (g : ℝ) (v : ℕ) (h : v < 64) (k : ℤ) :
    logp (F := Ideal) (g : EReal) (((k : ℝ) : ℝ) : EReal) ((mass g v : ℝ) : EReal) = ((ell g k - Real.log (mass g v) : ℝ) : EReal) := by
  unfold logp
  rw [lit_step]
  show (g : EReal) * ((k : ℝ) : EReal) - ((k : ℝ) : EReal) * ((k : ℝ) : EReal) * ((5 / 2 : ℝ) : EReal) - Ideal.log _ = _
  rw [Ideal.log_coe, if_neg (not_le.mpr (mass_pos g v h))]
  simp only [← EReal.coe_mul, ← EReal.coe_sub]
  rfl

/-! ## The scan -/

/-- The scan's state after the scores up to `m`: the first of the greatest of them. -/
def Leads (s : ℕ → EReal) (p : ℕ → W) (m : ℕ) (st : EReal × W) : Prop :=
  ∃ j ≤ m, st = (s j, p j) ∧ (∀ i < j, s i < s j) ∧ ∀ i ≤ m, s i ≤ s j

theorem leads_zero (s : ℕ → EReal) (p : ℕ → W) : Leads s p 0 (s 0, p 0) :=
  ⟨0, le_refl _, rfl, fun i hi => absurd hi (Nat.not_lt_zero i), fun i hi => by rw [Nat.le_zero.mp hi]⟩

/-- One comparison keeps the state. -/
theorem leads_succ (s : ℕ → EReal) (p : ℕ → W) (m : ℕ) (st : EReal × W) (h : Leads s p m st) :
    Leads s p (m + 1) (better (F := Ideal) (s (m + 1)) (p (m + 1)) st) := by
  obtain ⟨j, hj, rfl, h1, h2⟩ := h
  have hb : better (F := Ideal) (s (m + 1)) (p (m + 1)) (s j, p j) = if s j < s (m + 1) then (s (m + 1), p (m + 1)) else (s j, p j) := by
    show (Scalar.select (BitVec.ofBool (decide (s j < s (m + 1)))) _ _, Scalar.select (BitVec.ofBool (decide (s j < s (m + 1)))) _ _) = _
    rw [select_bool, select_bool]; split_ifs <;> rfl
  rw [hb]
  by_cases h : s j < s (m + 1)
  · rw [if_pos h]
    refine ⟨m + 1, le_refl _, rfl, fun i hi => lt_of_le_of_lt (h2 i (by omega)) h, fun i hi => ?_⟩
    rcases Nat.lt_or_ge i (m + 1) with hlt | hge
    · exact le_of_lt (lt_of_le_of_lt (h2 i (by omega)) h)
    · rw [show i = m + 1 by omega]
  · rw [if_neg h]
    refine ⟨j, by omega, rfl, h1, fun i hi => ?_⟩
    rcases Nat.lt_or_ge i (m + 1) with hlt | hge
    · exact h2 i (by omega)
    · rw [show i = m + 1 by omega]; exact not_lt.mp h

/-- The displacement of the scan's position. -/
def place (i : ℕ) : W := BitVec.ofInt 32 ((i : ℤ) - 2)

/-- The window's best displacement is the first of the greatest scores. -/
theorem best_eq (k1 k2 k3 n : W) (g : ℝ) (v : ℕ) (h : v < 64) :
    ∃ j : ℕ, j ≤ 4 ∧ best (F := Ideal) k1 k2 k3 n (cat v) (g : EReal) = place j
      ∧ (∀ i : ℕ, i < j → logitAt g v ((i : ℤ) - 2) + noise (F := Ideal) k1 k2 k3 n (place i) < logitAt g v ((j : ℤ) - 2) + noise (F := Ideal) k1 k2 k3 n (place j))
      ∧ ∀ i : ℕ, i ≤ 4 → logitAt g v ((i : ℤ) - 2) + noise (F := Ideal) k1 k2 k3 n (place i) ≤ logitAt g v ((j : ℤ) - 2) + noise (F := Ideal) k1 k2 k3 n (place j) := by
  let s : ℕ → EReal := fun i => logitAt g v ((i : ℤ) - 2) + noise (F := Ideal) k1 k2 k3 n (place i)
  have e : best (F := Ideal) k1 k2 k3 n (cat v) (g : EReal)
      = (better (F := Ideal) (s 4) (place 4) (better (F := Ideal) (s 3) (place 3) (better (F := Ideal) (s 2) (place 2)
          (better (F := Ideal) (s 1) (place 1) (s 0, place 0))))).2 := by
    have e2 : s 2 = noise (F := Ideal) k1 k2 k3 n 0#32 := by
      show logitAt g v 0 + _ = _; rw [logitAt_zero g v h, zero_add]; rfl
    rw [e2]
    unfold best best3 best2 best1 best0
    rw [lm2_eq g v h, lm1_eq g v h, lp1_eq g v h, lp2_eq g v h]
    rfl
  obtain ⟨j, hj, hst, h1, h2⟩ := leads_succ s place 3 _ (leads_succ s place 2 _ (leads_succ s place 1 _ (leads_succ s place 0 _ (leads_zero s place))))
  exact ⟨j, hj, by rw [e, hst], h1, h2⟩

end Cert.Sampler
-- ==== Proof.Noise.lean ====
/-
  The random draws over the extended reals: a word's uniform variate, and that the Gumbel variate of a word is finite.
-/
module

public import proofs.«01_k».proof.Proof.Window

@[expose] public section

noncomputable section

open Idealize.ShloMosaic

namespace Cert.Sampler

/-- The number of a word with the exponent of one. -/
theorem ofBits_unit (w : W) (f : ℕ) (hf : f < 2 ^ 23) (hw : w.toNat = 2 ^ 23 * 127 + f) :
    Ideal.ofBits .f32 w = ((1 + f / 2 ^ 23 : ℝ) : EReal) := by
  have h1 : (w.extractLsb' 31 1 == 1#1) = false := by
    rw [beq_eq_false_iff_ne]; intro h
    have := congrArg BitVec.toNat h
    rw [BitVec.extractLsb'_toNat, hw, Nat.shiftRight_eq_div_pow] at this
    simp at this; omega
  have h2 : (w.extractLsb' 23 8).toNat = 127 := by
    rw [BitVec.extractLsb'_toNat, hw, Nat.shiftRight_eq_div_pow]; omega
  have h3 : (w.extractLsb' 0 23).toNat = f := by
    rw [BitVec.extractLsb'_toNat, hw, Nat.shiftRight_eq_div_pow]; omega
  show Ideal.ieee 8 23 w = _
  unfold Ideal.ieee
  simp only [h1, h2, h3]
  norm_num [-EReal.coe_mul, -EReal.coe_add]
  field_simp

/-- The uniform pattern of a word. -/
def unitBits (b : W) : W := IntOp.ori (IntOp.shrui .vector b 9#32) 1065353216#32

theorem unitBits_toNat (b : W) : (unitBits b).toNat = 2 ^ 23 * 127 + b.toNat / 512 := by
  have hb : b.toNat / 512 < 2 ^ 23 := by have := b.isLt; omega
  show ((b >>> (9 : ℕ)) ||| 1065353216#32).toNat = _
  rw [BitVec.toNat_or, BitVec.toNat_ushiftRight, Nat.shiftRight_eq_div_pow, Nat.or_comm,
    Nat.two_pow_add_eq_or_of_lt (i := 23) (b := b.toNat / 512) hb 127]
  rfl

/-- The uniform variate of a word. -/
def unit (b : W) : ℝ := ((b.toNat / 512 : ℕ) : ℝ) / 2 ^ 23

theorem ofBits_unitBits (b : W) : Ideal.ofBits .f32 (unitBits b) = ((1 + unit b : ℝ) : EReal) :=
  ofBits_unit _ _ (by have := b.isLt; omega) (unitBits_toNat b)

theorem lit_tiny : lit (F := Ideal) 0x00800000#32 = (((2 : ℝ) ^ (-126 : ℤ) : ℝ) : EReal) := by
  rw [lit_eq]; simp [Ideal.ofBits, Ideal.ieee, -EReal.coe_mul]; norm_num

/-- The Gumbel variate of a word, as a real. -/
def gumbel (b : W) : ℝ := -Real.log (-Real.log (unit b + (2 : ℝ) ^ (-126 : ℤ)))

theorem unit_bounds (b : W) : 0 < unit b + (2 : ℝ) ^ (-126 : ℤ) ∧ unit b + (2 : ℝ) ^ (-126 : ℤ) < 1 := by
  have hb : b.toNat / 512 ≤ 2 ^ 23 - 1 := by have := b.isLt; omega
  have h0 : 0 ≤ unit b := by unfold unit; positivity
  have h1 : unit b ≤ (2 ^ 23 - 1) / 2 ^ 23 := by
    unfold unit
    refine div_le_div_of_nonneg_right ?_ (by positivity)
    calc ((b.toNat / 512 : ℕ) : ℝ) ≤ ((2 ^ 23 - 1 : ℕ) : ℝ) := Nat.cast_le.mpr hb
      _ = 2 ^ 23 - 1 := by norm_num
  have h2 : (0 : ℝ) < (2 : ℝ) ^ (-126 : ℤ) := by positivity
  have h3 : (2 : ℝ) ^ (-126 : ℤ) < 1 / 2 ^ 23 := by norm_num
  constructor
  · linarith
  · exact lt_of_lt_of_eq (add_lt_add_of_le_of_lt h1 h3) (by norm_num)

theorem log_unit (b : W) : Ideal.log ((unit b + (2 : ℝ) ^ (-126 : ℤ) : ℝ) : EReal) = ((Real.log (unit b + (2 : ℝ) ^ (-126 : ℤ)) : ℝ) : EReal) := by
  rw [Ideal.log_coe, if_neg (not_le.mpr (unit_bounds b).1)]

theorem log_neg_log (b : W) : Ideal.log ((-Real.log (unit b + (2 : ℝ) ^ (-126 : ℤ)) : ℝ) : EReal)
    = ((Real.log (-Real.log (unit b + (2 : ℝ) ^ (-126 : ℤ))) : ℝ) : EReal) := by
  rw [Ideal.log_coe, if_neg (not_le.mpr (neg_pos.mpr (Real.log_neg (unit_bounds b).1 (unit_bounds b).2)))]

/-- The kernel's Gumbel variate is this real. -/
theorem gumbelOf_eq (b : W) : gumbelOf (F := Ideal) b = ((gumbel b : ℝ) : EReal) := by
  show lit (F := Ideal) 0x00000000#32 - Ideal.log (lit (F := Ideal) 0x00000000#32 - Ideal.log
    (Ideal.ofBits .f32 (unitBits b) - lit (F := Ideal) 0x3F800000#32 + lit (F := Ideal) 0x00800000#32)) = _
  rw [lit_zero, lit_one, lit_tiny, ofBits_unitBits, zero_sub, zero_sub, ← EReal.coe_sub, ← EReal.coe_add, add_sub_cancel_left, log_unit,
    ← EReal.coe_neg, log_neg_log, ← EReal.coe_neg]
  rfl

/-- The reference's, by negations. -/
theorem host_gumbel (b : W) : -Ideal.log (-Ideal.log (Ideal.ofBits .f32 (unitBits b) - lit (F := Ideal) 0x3F800000#32 + lit (F := Ideal) 0x00800000#32))
    = ((gumbel b : ℝ) : EReal) := by
  rw [lit_one, lit_tiny, ofBits_unitBits, ← EReal.coe_sub, ← EReal.coe_add, add_sub_cancel_left, log_unit,
    ← EReal.coe_neg, log_neg_log, ← EReal.coe_neg]
  rfl

end Cert.Sampler
-- ==== Proof.Coordinate.lean ====
/-
  One coordinate of one sampler step over the extended reals, where the coordinate holds a category and its weights are
  finite: the kernel proposes the first category of the greatest score, and its three quantities are these reals.
-/
module

public import proofs.«01_k».proof.Proof.Noise

@[expose] public section

noncomputable section

open Idealize.ShloMosaic

namespace Cert.Sampler

/-- The first of the greatest of 64 scores. -/
def First (z : ℕ → EReal) (t : ℕ) : Prop := t < 64 ∧ (∀ d < t, z d < z t) ∧ ∀ d < 64, z d ≤ z t

theorem First.unique {z : ℕ → EReal} {s t : ℕ} (hs : First z s) (ht : First z t) : s = t := by
  rcases Nat.lt_trichotomy s t with h | h | h
  · exact absurd (ht.2.1 s h) (not_lt.mpr (hs.2.2 t ht.1))
  · exact h
  · exact absurd (hs.2.1 t h) (not_lt.mpr (ht.2.2 s hs.1))

/-- The slope at a category. -/
def slopeAt (a q : ℝ) (v : ℕ) : ℝ := a - v * q

theorem slope_eq (a q : ℝ) (v : ℕ) (h : v < 64) :
    slope (F := Ideal) (a : EReal) (q : EReal) (FloatOps.sitofp (F := Ideal) .f32 (cat v)) = ((slopeAt a q v : ℝ) : EReal) := by
  rw [cat_float v (by omega)]
  show (a : EReal) - ((v : ℝ) : EReal) * (q : EReal) = _
  rw [← EReal.coe_mul, ← EReal.coe_sub]; rfl

/-- The score of a category: its draw and its logit. -/
def score (r : ℕ → ℝ) (g : ℝ) (v d : ℕ) : EReal := ((r d : ℝ) : EReal) + logit g v d

theorem logit_at (g : ℝ) (v d : ℕ) (h : Near v d) (hd : d < 64) : logit g v d = logitAt g v ((d : ℤ) - v) := by
  unfold logit logitAt; rw [if_pos h, if_pos ⟨by omega, by omega⟩]

theorem score_near (r : ℕ → ℝ) (g : ℝ) (v d : ℕ) (h : Near v d) : score r g v d = ((r d + ell g ((d : ℤ) - v) : ℝ) : EReal) := by
  unfold score logit; rw [if_pos h, ← EReal.coe_add]

theorem score_far (r : ℕ → ℝ) (g : ℝ) (v d : ℕ) (h : ¬ Near v d) : score r g v d = ⊥ := by
  unfold score logit; rw [if_neg h, EReal.add_bot]

/-- The first of the greatest scores is within two. -/
theorem First.near {r : ℕ → ℝ} {g : ℝ} {v t : ℕ} (hv : v < 64) (h : First (score r g v) t) : Near v t := by
  by_contra hn
  have := h.2.2 v hv
  rw [score_far r g v t hn, score_near r g v v (by simp)] at this
  exact absurd this (not_le.mpr (EReal.bot_lt_coe _))

/-- A word of a displacement from a category. -/
theorem cat_place (v t j : ℕ) (h : (t : ℤ) = v + ((j : ℤ) - 2)) : IntOp.addi (cat v) (place j) = cat t := by
  show BitVec.ofNat 32 v + BitVec.ofInt 32 ((j : ℤ) - 2) = BitVec.ofNat 32 t
  rw [← BitVec.ofInt_natCast, ← BitVec.ofInt_natCast, ← BitVec.ofInt_add, h]

theorem place_toInt (j : ℕ) (h : j ≤ 4) : (place j).toInt = (j : ℤ) - 2 := by
  unfold place; rw [BitVec.toInt_ofInt, Int.bmod_eq_of_le] <;> omega

/-- The proposal, from the draws `r` of the categories: the first of the greatest scores, at a place of the window. -/
theorem best_first (k1 k2 k3 n : W) (g : ℝ) (v : ℕ) (h : v < 64) (r : ℕ → ℝ)
    (hr : ∀ (d i : ℕ), d < 64 → i ≤ 4 → (d : ℤ) = v + ((i : ℤ) - 2) → noise (F := Ideal) k1 k2 k3 n (place i) = ((r d : ℝ) : EReal)) :
    ∃ t j : ℕ, j ≤ 4 ∧ (t : ℤ) = v + ((j : ℤ) - 2) ∧ best (F := Ideal) k1 k2 k3 n (cat v) (g : EReal) = place j ∧ First (score r g v) t := by
  obtain ⟨j, hj, hb, h1, h2⟩ := best_eq k1 k2 k3 n g v h
  -- a place inside the categories scores as its category does
  have hs : ∀ (d i : ℕ), d < 64 → i ≤ 4 → (d : ℤ) = v + ((i : ℤ) - 2) →
      logitAt g v ((i : ℤ) - 2) + noise (F := Ideal) k1 k2 k3 n (place i) = score r g v d := by
    intro d i hd hi he
    rw [hr d i hd hi he, add_comm]
    unfold score
    rw [logit_at g v d (abs_le.mpr ⟨by omega, by omega⟩) hd, show (d : ℤ) - v = (i : ℤ) - 2 by omega]
  -- the winner is inside, for the current category is and its score is finite
  have hin : Inside v ((j : ℤ) - 2) := by
    by_contra hn
    have := h2 2 (by omega)
    rw [hs v 2 h (by omega) (by omega)] at this
    unfold logitAt at this
    rw [if_neg hn, EReal.bot_add, score_near r g v v (by simp)] at this
    exact absurd this (not_le.mpr (EReal.bot_lt_coe _))
  obtain ⟨t, ht⟩ : ∃ t : ℕ, (t : ℤ) = v + ((j : ℤ) - 2) := ⟨((v : ℤ) + ((j : ℤ) - 2)).toNat, by omega⟩
  have ht64 : t < 64 := by omega
  refine ⟨t, j, hj, ht, hb, ht64, fun d hd => ?_, fun d hd => ?_⟩
  · by_cases hn : Near v d
    · obtain ⟨i, hi⟩ : ∃ i : ℕ, (d : ℤ) = v + ((i : ℤ) - 2) := ⟨((d : ℤ) - v + 2).toNat, by have := abs_le.mp hn; omega⟩
      rw [← hs d i (by omega) (by omega) hi, ← hs t j ht64 hj ht]
      exact h1 i (by omega)
    · rw [score_far r g v d hn, score_near r g v t (abs_le.mpr ⟨by omega, by omega⟩)]
      exact EReal.bot_lt_coe _
  · by_cases hn : Near v d
    · obtain ⟨i, hi⟩ : ∃ i : ℕ, (d : ℤ) = v + ((i : ℤ) - 2) := ⟨((d : ℤ) - v + 2).toNat, by have := abs_le.mp hn; omega⟩
      have hi4 : i ≤ 4 := by have := abs_le.mp hn; omega
      rw [← hs d i hd hi4 hi, ← hs t j ht64 hj ht]
      exact h2 i hi4
    · rw [score_far r g v d hn]; exact bot_le

/-- The kernel's proposal and its log-probability. -/
theorem moved_fwd (k1 k2 k3 n : W) (a q : ℝ) (v : ℕ) (h : v < 64) (r : ℕ → ℝ)
    (hr : ∀ (d i : ℕ), d < 64 → i ≤ 4 → (d : ℤ) = v + ((i : ℤ) - 2) → noise (F := Ideal) k1 k2 k3 n (place i) = ((r d : ℝ) : EReal)) :
    ∃ t : ℕ, First (score r (slopeAt a q v) v) t ∧ moved (F := Ideal) k1 k2 k3 n (cat v) (a : EReal) (q : EReal) = cat t
      ∧ fwd (F := Ideal) k1 k2 k3 n (cat v) (a : EReal) (q : EReal) = ((logProb (slopeAt a q v) v t : ℝ) : EReal) := by
  obtain ⟨t, j, hj, ht, hb, hf⟩ := best_first k1 k2 k3 n (slopeAt a q v) v h r hr
  refine ⟨t, hf, ?_, ?_⟩
  · unfold moved; rw [slope_eq a q v h, hb, cat_place v t j ht]
  · unfold fwd
    rw [slope_eq a q v h, hb, norm_eq _ v h]
    rw [show FloatOps.sitofp (F := Ideal) .f32 (place j) = (((((j : ℤ) - 2 : ℤ) : ℝ) : ℝ) : EReal) by
      show (((place j).toInt : ℝ) : EReal) = _; rw [place_toInt j hj]]
    rw [logp_eq _ v h]
    unfold logProb; rw [show (t : ℤ) - v = (j : ℤ) - 2 by omega]

/-- The way back's log-probability. -/
theorem rev_eq (a q : ℝ) (v t : ℕ) (hv : v < 64) (ht : t < 64) :
    rev (F := Ideal) (cat v) (cat t) (a : EReal) (q : EReal) = ((logProb (slopeAt a q t / 2) t v : ℝ) : EReal) := by
  have hb : back (F := Ideal) (cat t) (a : EReal) (q : EReal) = ((slopeAt a q t / 2 : ℝ) : EReal) := by
    unfold back; rw [slope_eq a q t ht, lit_two]
    show Ideal.div _ _ = _
    unfold Ideal.div
    rw [if_neg (by norm_num), ← EReal.coe_inv, ← EReal.coe_mul]; rfl
  have hd : FloatOps.sitofp (F := Ideal) .f32 (IntOp.subi (cat v) (cat t)) = (((((v : ℤ) - t : ℤ) : ℝ) : ℝ) : EReal) := by
    show (((cat v - cat t).toInt : ℝ) : EReal) = _
    rw [BitVec.toInt_sub, cat_toInt v (by omega), cat_toInt t (by omega), Int.bmod_eq_of_le] <;> omega
  unfold rev
  rw [hb, hd, norm_eq _ t ht, logp_eq _ t ht]
  rfl

/-- A coordinate's share of the model, as a real. -/
def shareAt (a q : ℝ) (v : ℕ) : ℝ := v * a - 1 / 2 * (v * v * q)

theorem gain_eq (a q : ℝ) (v t : ℕ) (hv : v < 64) (ht : t < 64) :
    gain (F := Ideal) (cat v) (cat t) (a : EReal) (q : EReal) = ((shareAt a q t - shareAt a q v : ℝ) : EReal) := by
  have hs : ∀ v : ℕ, v < 64 → share (F := Ideal) (FloatOps.sitofp (F := Ideal) .f32 (cat v)) (a : EReal) (q : EReal) = ((shareAt a q v : ℝ) : EReal) := by
    intro v h
    unfold share; rw [cat_float v (by omega), lit_half]
    show ((v : ℝ) : EReal) * (a : EReal) - ((1 / 2 : ℝ) : EReal) * (((v : ℝ) : EReal) * ((v : ℝ) : EReal) * (q : EReal)) = _
    simp only [← EReal.coe_mul, ← EReal.coe_sub]; rfl
  unfold gain
  rw [hs v hv, hs t ht]
  show ((shareAt a q t : ℝ) : EReal) - ((shareAt a q v : ℝ) : EReal) = _
  rw [← EReal.coe_sub]

end Cert.Sampler
-- ==== Proof.ReferenceValue.lean ====
/-
  The reference's step read over the extended reals where every coordinate holds a category and the weights are finite: its
  logits, its proposal, its log-probabilities and its model, at each coordinate.
-/
module

public import proofs.«01_k».proof.Proof.Reference
public import proofs.«01_k».proof.Proof.Coordinate
public import Idealize.ShloMosaic.Lib.SortNet.Extract

@[expose] public section

noncomputable section

namespace Cert.ReferenceIdeal.Sample

open Cert.ReferenceIdeal Cert.ReferenceIdeal.Gen Idealize.ShloMosaic Idealize.ShloMosaic.TcCoe
open Idealize.ShloMosaic.StableHlo Cert.Sampler

/-! ## Indices -/

/-- A coordinate's category. -/
abbrev put (y : S64x8192.Idx) (d : Fin 64) : S64x8192x64.Idx := fun a => match a with
  | ⟨0, _⟩ => ⟨(y 0).val, (y 0).isLt⟩
  | ⟨1, _⟩ => ⟨(y 1).val, (y 1).isLt⟩
  | ⟨2, _⟩ => ⟨d.val, d.isLt⟩

/-- A row's coordinate. -/
abbrev at2 (i : S64.Idx) (k : Fin 8192) : S64x8192.Idx := fun a => match a with
  | ⟨0, _⟩ => ⟨(i 0).val, (i 0).isLt⟩
  | ⟨1, _⟩ => ⟨k.val, k.isLt⟩

/-- A coordinate's column. -/
abbrev col (y : S64x8192.Idx) : S8192.Idx := fun a => match a with | ⟨0, _⟩ => ⟨(y 1).val, (y 1).isLt⟩

/-- A coordinate's row. -/
abbrev rowOf (y : S64x8192.Idx) : S64.Idx := fun a => match a with | ⟨0, _⟩ => ⟨(y 0).val, (y 0).isLt⟩

theorem rowOf_at2 (i : S64.Idx) (k : Fin 8192) : rowOf (at2 i k) = i := by
  funext a; match a with | ⟨0, _⟩ => rfl

section Reads
variable {α : Type}

theorem over_put (v : S64x8192.Idx → α) (y : S64x8192.Idx) (d : Fin 64) : over v (put y d) = v y := by
  unfold over
  rw [broadcastInDim_apply _ bcast_S64x8192x1_S64x8192x64_0_1_2 _ (put y d) (fun a => match a with
      | ⟨0, _⟩ => ⟨(y 0).val, (y 0).isLt⟩ | ⟨1, _⟩ => ⟨(y 1).val, (y 1).isLt⟩ | ⟨2, _⟩ => ⟨0, Nat.one_pos⟩ : S64x8192x1.Idx)
    (fun a => match a with
      | ⟨0, _⟩ => by show (y 0).val = if (64 : Nat) = 1 then 0 else (y 0).val; rw [if_neg (by decide)]
      | ⟨1, _⟩ => by show (y 1).val = if (8192 : Nat) = 1 then 0 else (y 1).val; rw [if_neg (by decide)]
      | ⟨2, _⟩ => by show 0 = if (1 : Nat) = 1 then 0 else d.val; rw [if_pos rfl])]
  exact broadcastInDim_apply _ bcast_S64x8192_S64x8192x1_0_1 v _ y (fun a => match a with
      | ⟨0, _⟩ => by show (y 0).val = if (64 : Nat) = 1 then 0 else (y 0).val; rw [if_neg (by decide)]
      | ⟨1, _⟩ => by show (y 1).val = if (8192 : Nat) = 1 then 0 else (y 1).val; rw [if_neg (by decide)])

theorem spread_put (v : S64x8192x1.Idx → α) (w : S64x8192.Idx → α) (y : S64x8192.Idx) (d : Fin 64)
    (h : ∀ i : S64x8192x1.Idx, v i = w (fun a => match a with | ⟨0, _⟩ => ⟨(i 0).val, (i 0).isLt⟩ | ⟨1, _⟩ => ⟨(i 1).val, (i 1).isLt⟩)) :
    broadcastInDim S64x8192x64 ![0, 1, 2] bcast_S64x8192x1_S64x8192x64_0_1_2 v (put y d) = w y := by
  rw [broadcastInDim_apply _ bcast_S64x8192x1_S64x8192x64_0_1_2 _ (put y d) (fun a => match a with
      | ⟨0, _⟩ => ⟨(y 0).val, (y 0).isLt⟩ | ⟨1, _⟩ => ⟨(y 1).val, (y 1).isLt⟩ | ⟨2, _⟩ => ⟨0, Nat.one_pos⟩ : S64x8192x1.Idx)
    (fun a => match a with
      | ⟨0, _⟩ => by show (y 0).val = if (64 : Nat) = 1 then 0 else (y 0).val; rw [if_neg (by decide)]
      | ⟨1, _⟩ => by show (y 1).val = if (8192 : Nat) = 1 then 0 else (y 1).val; rw [if_neg (by decide)]
      | ⟨2, _⟩ => by show 0 = if (1 : Nat) = 1 then 0 else d.val; rw [if_pos rfl]), h]
  exact congrArg w (funext fun a => match a with | ⟨0, _⟩ => rfl | ⟨1, _⟩ => rfl)

theorem lone_apply (v : S64x8192.Idx → α) (i : S64x8192x1.Idx) :
    broadcastInDim S64x8192x1 ![0, 1] bcast_S64x8192_S64x8192x1_0_1 v i
      = v (fun a => match a with | ⟨0, _⟩ => ⟨(i 0).val, (i 0).isLt⟩ | ⟨1, _⟩ => ⟨(i 1).val, (i 1).isLt⟩) :=
  broadcastInDim_apply _ bcast_S64x8192_S64x8192x1_0_1 v i _ (fun a => match a with
      | ⟨0, _⟩ => by show (i 0).val = if (64 : Nat) = 1 then 0 else (i 0).val; rw [if_neg (by decide)]
      | ⟨1, _⟩ => by show (i 1).val = if (8192 : Nat) = 1 then 0 else (i 1).val; rw [if_neg (by decide)])

theorem each_put (v : S64.Idx → α) (y : S64x8192.Idx) (d : Fin 64) : each v (put y d) = v (fun a => match a with | ⟨0, _⟩ => ⟨d.val, d.isLt⟩) := by
  unfold each
  rw [broadcastInDim_apply _ bcast_S1x1x64_S64x8192x64_0_1_2 _ (put y d) (fun a => match a with
      | ⟨0, _⟩ => ⟨0, Nat.one_pos⟩ | ⟨1, _⟩ => ⟨0, Nat.one_pos⟩ | ⟨2, _⟩ => ⟨d.val, d.isLt⟩ : S1x1x64.Idx)
    (fun a => match a with
      | ⟨0, _⟩ => by show 0 = if (1 : Nat) = 1 then 0 else (y 0).val; rw [if_pos rfl]
      | ⟨1, _⟩ => by show 0 = if (1 : Nat) = 1 then 0 else (y 1).val; rw [if_pos rfl]
      | ⟨2, _⟩ => by show d.val = if (64 : Nat) = 1 then 0 else d.val; rw [if_neg (by decide)])]
  exact broadcastInDim_apply _ bcast_S64_S1x1x64_2 v _ _ (fun a => match a with
      | ⟨0, _⟩ => by show d.val = if (64 : Nat) = 1 then 0 else d.val; rw [if_neg (by decide)])

theorem whole_apply (v : S_.Idx → α) (j : S64x8192x64.Idx) : whole v j = v (fun a => a.elim0) :=
  broadcastInDim_apply _ bcast_S_S64x8192x64 v j _ (fun a => a.elim0)

theorem rows_apply (v : S8192.Idx → α) (y : S64x8192.Idx) : rows v y = v (col y) := by
  unfold rows
  rw [broadcastInDim_apply _ bcast_S1x8192_S64x8192_0_1 _ y (fun a => match a with
      | ⟨0, _⟩ => ⟨0, Nat.one_pos⟩ | ⟨1, _⟩ => ⟨(y 1).val, (y 1).isLt⟩ : S1x8192.Idx)
    (fun a => match a with
      | ⟨0, _⟩ => by show 0 = if (1 : Nat) = 1 then 0 else (y 0).val; rw [if_pos rfl]
      | ⟨1, _⟩ => by show (y 1).val = if (8192 : Nat) = 1 then 0 else (y 1).val; rw [if_neg (by decide)])]
  exact broadcastInDim_apply _ bcast_S8192_S1x8192_1 v _ _ (fun a => match a with
      | ⟨0, _⟩ => by show (y 1).val = if (8192 : Nat) = 1 then 0 else (y 1).val; rw [if_neg (by decide)])

theorem along_apply (v : S64.Idx → α) (y : S64x8192.Idx) : along v y = v (rowOf y) :=
  broadcastInDim_apply _ bcast_S64_S64x8192_0 v y _ (fun a => match a with
      | ⟨0, _⟩ => by show (y 0).val = if (64 : Nat) = 1 then 0 else (y 0).val; rw [if_neg (by decide)])

theorem one64_apply (v : S_.Idx → α) (i : S64.Idx) : broadcastInDim S64 ![] bcast_S_S64 v i = v (fun a => a.elim0) :=
  broadcastInDim_apply _ bcast_S_S64 v i _ (fun a => a.elim0)

theorem flat_apply (v : S_.Idx → α) (y : S64x8192.Idx) : broadcastInDim S64x8192 ![] bcast_S_S64x8192 v y = v (fun a => a.elim0) :=
  broadcastInDim_apply _ bcast_S_S64x8192 v y _ (fun a => a.elim0)

theorem lift3 (h : S64x8192x64.Reduces [(2 : Fin S64x8192x64.rank)] S64x8192) (y : S64x8192.Idx) (d : Fin 64) : h.lift y d = put y d :=
  funext fun a => Fin.ext (by match a with | ⟨0, _⟩ => rfl | ⟨1, _⟩ => rfl | ⟨2, _⟩ => rfl)

theorem lift2 (h : S64x8192.Reduces [(1 : Fin S64x8192.rank)] S64) (i : S64.Idx) (k : Fin 8192) : h.lift i k = at2 i k :=
  funext fun a => Fin.ext (by match a with | ⟨0, _⟩ => rfl | ⟨1, _⟩ => rfl)

end Reads

/-! ## Sums -/

theorem coe_sum {ι : Type} [Fintype ι] (f : ι → ℝ) : (∑ i, ((f i : ℝ) : EReal)) = ((∑ i, f i : ℝ) : EReal) := by
  classical
  generalize (Finset.univ : Finset ι) = s
  induction s using Finset.induction_on with
  | empty => simp
  | insert i s hi ih => rw [Finset.sum_insert hi, Finset.sum_insert hi, ih, EReal.coe_add]

/-- A row's sum, as a sum. -/
theorem sumRow_eq (v : FVec Ideal S64x8192 .f32) (i : S64.Idx) : sumRow v i = ∑ k : Fin 8192, v (at2 i k) := by
  unfold sumRow
  simp only [Host.reduceAdd, Ideal.hostReduceAdd_def]
  rw [Ideal.hostReduceAdd_single reducesTo_S64x8192_S64_d1 (by decide)]
  rw [show constant (F := Ideal) S_ .f32 0x00000000#32 (Shape.Idx.first h_S_) = (0 : EReal) from lit_zero]
  refine (zero_add _).trans (Finset.sum_congr rfl fun k _ => ?_)
  exact congrArg v (lift2 _ i k)

/-- A sum over the categories. -/
theorem sum3_eq (v : FVec Ideal S64x8192x64 .f32) (y : S64x8192.Idx) :
    Host.reduceAdd v (constant S_ .f32 0x00000000#32) reducesTo_S64x8192x64_S64x8192_d2 h_S_ y = ∑ d : Fin 64, v (put y d) := by
  simp only [Host.reduceAdd, Ideal.hostReduceAdd_def]
  rw [Ideal.hostReduceAdd_single reducesTo_S64x8192x64_S64x8192_d2 (by decide)]
  rw [show constant (F := Ideal) S_ .f32 0x00000000#32 (Shape.Idx.first h_S_) = (0 : EReal) from lit_zero]
  refine (zero_add _).trans (Finset.sum_congr rfl fun k _ => ?_)
  exact congrArg v (lift3 _ y k)

theorem red3 : S64x8192x64.Reduces [(2 : Fin S64x8192x64.rank)] S64x8192 := by decide

/-- The greatest of 64 numbers is the one at the first greatest. -/
theorem fold_max_first (f : Fin 64 → EReal) (z : ℕ → EReal) (hf : ∀ d : Fin 64, f d = z d.val) (t : ℕ) (h : First z t) :
    (Finset.univ : Finset (Fin 64)).fold max ⊥ f = z t := by
  apply le_antisymm
  · rw [Finset.fold_max_le]
    exact ⟨bot_le, fun d _ => (hf d).le.trans (h.2.2 d.val d.isLt)⟩
  · rw [Finset.le_fold_max]
    exact Or.inr ⟨⟨t, h.1⟩, Finset.mem_univ _, (hf ⟨t, h.1⟩).ge⟩

/-- The least of the categories attaining the greatest is the first. -/
theorem fold_min_first (f : Fin 64 → W) (z : ℕ → EReal) (t : ℕ) (h : First z t)
    (hf : ∀ d : Fin 64, f d = cat (if z d.val = z t then d.val else 64)) :
    (Finset.univ : Finset (Fin 64)).fold IntOp.minsi 2147483647#32 f = cat t := by
  have ht := h.1
  apply BitVec.eq_of_toInt_eq
  rw [cat_toInt t (by omega), ← Finset.fold_hom (op' := min) (m := BitVec.toInt) (fun a b => SortNet.toInt_minsi a b)]
  apply le_antisymm
  · rw [Finset.fold_min_le]
    refine Or.inr ⟨⟨t, h.1⟩, Finset.mem_univ _, ?_⟩
    rw [hf, if_pos rfl, cat_toInt _ (by show t < _; omega)]
  · rw [Finset.le_fold_min]
    refine ⟨by rw [show (2147483647#32).toInt = 2147483647 by decide]; omega, fun d _ => ?_⟩
    have hd := d.isLt
    rw [hf, cat_toInt _ (by split_ifs <;> omega)]
    split_ifs with he
    · by_contra hlt
      exact absurd (h.2.1 d.val (by omega)) (by rw [he]; exact lt_irrefl _)
    · omega

/-- The greatest over the categories. -/
theorem max3_eq (v : FVec Ideal S64x8192x64 .f32) (y : S64x8192.Idx) (z : ℕ → EReal) (hz : ∀ d : Fin 64, v (put y d) = z d.val) (t : ℕ) (h : First z t) :
    Host.reduce FloatOps.maximumf v (constant S_ .f32 0xFF800000#32) reducesTo_S64x8192x64_S64x8192_d2 h_S_ y = z t := by
  refine (Host.reduce_eq_fold_single _ _ _ reducesTo_S64x8192x64_S64x8192_d2 red3 h_S_ y).trans ?_
  rw [show constant (F := Ideal) S_ .f32 0xFF800000#32 (Shape.Idx.first h_S_) = (⊥ : EReal) from lit_bot]
  exact fold_max_first _ z (fun d => (congrArg v (lift3 red3 y d)).trans (hz d)) t h

theorem cmpf_oeq (x y : EReal) : FloatOps.cmpf (F := Ideal) (φ := .f32) .oeq x y = BitVec.ofBool (decide (x = y)) := rfl
theorem cmpf_ole (x y : EReal) : FloatOps.cmpf (F := Ideal) (φ := .f32) .ole x y = BitVec.ofBool (decide (x ≤ y)) := rfl

theorem iota_apply (d : Fin 64) : iotaInDim S64 32 0 (fun a => match a with | ⟨0, _⟩ => ⟨d.val, d.isLt⟩) = cat d.val := rfl

/-- The pick is the first of the greatest. -/
theorem pick_eq (v : FVec Ideal S64x8192x64 .f32) (y : S64x8192.Idx) (z : ℕ → EReal) (hz : ∀ d : Fin 64, v (put y d) = z d.val) (t : ℕ) (h : First z t) :
    pick v y = cat t := by
  refine (Host.reduce_eq_fold_single _ _ _ reducesTo_S64x8192x64_S64x8192_d2 red3 h_S_ y).trans ?_
  refine fold_min_first _ z t h fun d => ?_
  -- a category that attains the greatest stands for itself, and any other for one past the last
  refine (congrArg _ (lift3 red3 y d)).trans ?_
  show Scalar.select (FloatOps.cmpf (F := Ideal) (φ := .f32) .oeq (v (put y d)) (over _ (put y d))) (each _ (put y d)) (whole _ (put y d)) = _
  rw [over_put, each_put, whole_apply, max3_eq v y z hz t h, hz d, cmpf_oeq, select_bool, iota_apply]
  split_ifs <;> rfl

/-! ## Logits -/

section Elementwise
variable {s : Shape}
theorem addf_at (a b : FVec Ideal s .f32) (i : s.Idx) : addf a b i = (a i + b i : EReal) := rfl
theorem subf_at (a b : FVec Ideal s .f32) (i : s.Idx) : subf a b i = (a i - b i : EReal) := rfl
theorem mulf_at (a b : FVec Ideal s .f32) (i : s.Idx) : mulf a b i = (a i * b i : EReal) := rfl
theorem negf_at (a : FVec Ideal s .f32) (i : s.Idx) : Host.negf a i = (-(a i) : EReal) := rfl
theorem maxf_at (a b : FVec Ideal s .f32) (i : s.Idx) : maximumf a b i = (max (a i) (b i) : EReal) := rfl
theorem exp_at (a : FVec Ideal s .f32) (i : s.Idx) : Host.exp a i = Ideal.exp (a i) := rfl
theorem log_at (a : FVec Ideal s .f32) (i : s.Idx) : Host.log a i = Ideal.log (a i) := rfl
theorem float_at (a : IVec s 32) (i : s.Idx) : sitofp (F := Ideal) .f32 a i = FloatOps.sitofp (F := Ideal) .f32 (a i) := rfl
theorem const_at (b : W) (i : s.Idx) : constant (F := Ideal) s .f32 b i = lit (F := Ideal) b := rfl
theorem select_at {α : Type} (c : IVec s 1) (a b : s.Idx → α) (i : s.Idx) : select c a b i = Scalar.select (c i) (a i) (b i) := rfl
theorem cmpi_at (p : CmpIPredicate) (a b : IVec s 32) (i : s.Idx) : cmpi p a b i = IntOp.cmpi p (a i) (b i) := rfl
end Elementwise

variable {x t : IVec S64x8192 32} {w1 w2 : FVec Ideal S8192 .f32} {g : FVec Ideal S64x8192 .f32}

theorem host_half : Ideal.div ((1 : ℝ) : EReal) ((2 : ℝ) : EReal) = ((1 / 2 : ℝ) : EReal) := by
  unfold Ideal.div
  rw [if_neg (by norm_num), ← EReal.coe_inv, ← EReal.coe_mul]; norm_num

/-- The gradient at a category is its slope. -/
theorem grad_eq (y : S64x8192.Idx) (v : ℕ) (hv : v < 64) (a q : ℝ) (hx : x y = cat v) (h1 : w1 (col y) = (a : EReal)) (h2 : w2 (col y) = (q : EReal)) :
    grad x w1 w2 y = ((slopeAt a q v : ℝ) : EReal) := by
  unfold grad
  simp only [addf_at, mulf_at, along_apply, rows_apply, negf_at, float_at, h1, h2, hx]
  rw [cat_float v (by omega), one64_apply, one64_apply, const_at, const_at]
  rw [lit_half, lit_one]
  simp only [← EReal.coe_neg, ← EReal.coe_mul, ← EReal.coe_add]
  congr 1
  unfold slopeAt; ring

/-- Half a slope. -/
theorem half_eq (y : S64x8192.Idx) (s : ℝ) (hg : g y = (s : EReal)) : half g y = ((s / 2 : ℝ) : EReal) := by
  show Ideal.div (g y) (broadcastInDim S64x8192 ![] bcast_S_S64x8192 (constant (F := Ideal) S_ .f32 0x40000000#32) y) = _
  rw [flat_apply, hg]
  show Ideal.div _ (lit (F := Ideal) 0x40000000#32) = _
  rw [lit_two]
  unfold Ideal.div
  rw [if_neg (by norm_num), ← EReal.coe_inv, ← EReal.coe_mul]; rfl

theorem away_eq (y : S64x8192.Idx) (v : ℕ) (hv : v < 64) (hx : x y = cat v) (d : Fin 64) :
    away (F := Ideal) x (put y d) = ((((d.val : ℤ) - v : ℤ) : ℝ) : EReal) := by
  show (each (sitofp (F := Ideal) .f32 (iotaInDim S64 32 0)) (put y d) - over (sitofp (F := Ideal) .f32 x) (put y d) : EReal) = _
  rw [each_put, over_put]
  show (FloatOps.sitofp (F := Ideal) .f32 (cat d.val) - FloatOps.sitofp (F := Ideal) .f32 (x y) : EReal) = _
  have := d.isLt
  rw [hx, cat_float v (by omega), cat_float _ (by omega), ← EReal.coe_sub]
  congr 1; push_cast; rfl

/-- The reference's logits. -/
theorem logits_eq (y : S64x8192.Idx) (v : ℕ) (hv : v < 64) (hx : x y = cat v) (s : ℝ) (hg : g y = (s : EReal)) (d : Fin 64) :
    logits x g (put y d) = logit s v d.val := by
  show Scalar.select (FloatOps.cmpf (F := Ideal) (φ := .f32) .ole (max (away (F := Ideal) x (put y d)) (-(away (F := Ideal) x (put y d)))) (whole _ (put y d)))
    (over g (put y d) * away (F := Ideal) x (put y d) - away (F := Ideal) x (put y d) * away (F := Ideal) x (put y d) * whole _ (put y d)) (whole _ (put y d)) = _
  rw [away_eq y v hv hx d, over_put, hg]
  simp only [whole_apply]
  show Scalar.select (FloatOps.cmpf (F := Ideal) (φ := .f32) .ole _ (lit (F := Ideal) 0x40000000#32))
    (_ - _ * lit (F := Ideal) 0x40200000#32) (lit (F := Ideal) 0xFF800000#32) = _
  rw [lit_two, lit_step, lit_bot, cmpf_ole, select_bool]
  unfold logit
  have hc : max ((((d.val : ℤ) - v : ℤ) : ℝ) : EReal) (-((((d.val : ℤ) - v : ℤ) : ℝ) : EReal)) ≤ ((2 : ℝ) : EReal) ↔ Near v d.val := by
    rw [max_le_iff, ← EReal.coe_neg, EReal.coe_le_coe_iff, EReal.coe_le_coe_iff, Near, abs_le]
    constructor
    · rintro ⟨h1, h2⟩
      have h1' : ((d.val : ℤ) - v) ≤ 2 := by exact_mod_cast h1
      have h2' : -((d.val : ℤ) - v) ≤ 2 := by exact_mod_cast h2
      omega
    · rintro ⟨h1, h2⟩
      constructor
      · exact_mod_cast h2
      · have : -((d.val : ℤ) - v) ≤ 2 := by omega
        exact_mod_cast this
  by_cases hn : Near v d.val
  · rw [if_pos (hc.mpr hn), if_pos hn]
    simp only [← EReal.coe_mul, ← EReal.coe_sub]; rfl
  · rw [if_neg (mt hc.mp hn), if_neg hn]

/-! ## Log-probabilities -/

/-- The logits have a first greatest. -/
theorem exists_first (z : ℕ → EReal) : ∃ t, First z t := by
  classical
  obtain ⟨m, _, hm⟩ := Finset.exists_max_image (Finset.univ : Finset (Fin 64)) (fun d => z d.val) ⟨0, Finset.mem_univ _⟩
  have hex : ∃ t, t < 64 ∧ ∀ d < 64, z d ≤ z t := ⟨m.val, m.isLt, fun d hd => hm ⟨d, hd⟩ (Finset.mem_univ _)⟩
  refine ⟨Nat.find hex, (Nat.find_spec hex).1, fun d hd => ?_, (Nat.find_spec hex).2⟩
  have h64 : d < 64 := hd.trans (Nat.find_spec hex).1
  by_contra hle
  exact Nat.find_min hex hd ⟨h64, fun e he => ((Nat.find_spec hex).2 e he).trans (not_lt.mp hle)⟩

variable {l : FVec Ideal S64x8192x64 .f32}

/-- The shifted logits are the logits less a real. -/
theorem shifted_eq (y : S64x8192.Idx) (v : ℕ) (hv : v < 64) (s : ℝ) (hl : ∀ d : Fin 64, l (put y d) = logit s v d.val) :
    ∃ M : ℝ, ∀ d : Fin 64, shifted l (put y d) = if Near v d.val then ((ell s ((d.val : ℤ) - v) - M : ℝ) : EReal) else ⊥ := by
  obtain ⟨t, ht⟩ := exists_first (logit s v)
  have hn : Near v t := by
    by_contra hn
    have := ht.2.2 v hv
    unfold logit at this
    rw [if_neg hn, if_pos (by simp)] at this
    exact absurd this (not_le.mpr (EReal.bot_lt_coe _))
  refine ⟨ell s ((t : ℤ) - v), fun d => ?_⟩
  unfold shifted
  rw [subf_at, over_put, hl, maxf_at, flat_apply, max3_eq l y (logit s v) hl t ht, const_at]
  rw [lit_bot, max_eq_right bot_le]
  unfold logit
  rw [if_pos hn]
  split_ifs
  · rw [← EReal.coe_sub]
  · rfl

/-- The logarithm of a probability. -/
theorem logSoftmax_eq (y : S64x8192.Idx) (v : ℕ) (hv : v < 64) (s : ℝ) (hl : ∀ d : Fin 64, l (put y d) = logit s v d.val)
    (d : Fin 64) (hd : Near v d.val) : logSoftmax l (put y d) = ((logProb s v d.val : ℝ) : EReal) := by
  obtain ⟨M, hM⟩ := shifted_eq y v hv s hl
  unfold logSoftmax
  rw [subf_at, spread_put _ (fun y => Ideal.log (Host.reduceAdd (F := Ideal) (Host.exp (shifted l)) (constant S_ .f32 0x00000000#32) reducesTo_S64x8192x64_S64x8192_d2 h_S_ y)) y d
    (fun i => by rw [log_at, lone_apply])]
  rw [sum3_eq, hM d, if_pos hd]
  have hs : ∑ e : Fin 64, Host.exp (F := Ideal) (shifted l) (put y e) = ((Real.exp (-M) * mass s v : ℝ) : EReal) := by
    unfold mass
    rw [Finset.mul_sum, ← coe_sum]
    refine Finset.sum_congr rfl fun e _ => ?_
    rw [exp_at, hM e]
    split_ifs
    · rw [Ideal.exp_coe, ← Real.exp_add]; congr 2; ring
    · rw [Ideal.exp_bot, mul_zero]; rfl
  rw [hs, Ideal.log_coe, if_neg (not_le.mpr (mul_pos (Real.exp_pos _) (mass_pos s v hv))), ← EReal.coe_sub,
    Real.log_mul (Real.exp_pos _).ne' (mass_pos s v hv).ne', Real.log_exp]
  unfold logProb
  congr 1; ring

/-- The log-probability of one category. -/
theorem logAt_eq (y : S64x8192.Idx) (v : ℕ) (hv : v < 64) (s : ℝ) (hl : ∀ d : Fin 64, l (put y d) = logit s v d.val)
    (k : ℕ) (hk : k < 64) (hn : Near v k) (ht : t y = cat k) : logAt l t y = ((logProb s v k : ℝ) : EReal) := by
  unfold logAt
  rw [sum3_eq]
  have hf : ∀ d : Fin 64, select (cmpi .eq (each (iotaInDim S64 32 0)) (over t)) (logSoftmax l) (whole (constant S_ .f32 0x00000000#32)) (put y d)
      = if d.val = k then logSoftmax l (put y d) else 0 := fun d => by
    have := d.isLt
    rw [select_at, cmpi_at, each_put, over_put, whole_apply, iota_apply, ht, eq_cat _ _ (by omega) (by omega), select_bool, const_at, lit_zero]
  rw [Finset.sum_congr rfl fun d _ => hf d, Finset.sum_eq_single (⟨k, hk⟩ : Fin 64)]
  · rw [if_pos rfl]; exact logSoftmax_eq y v hv s hl ⟨k, hk⟩ hn
  · intro d _ hd; exact if_neg fun he => hd (Fin.ext he)
  · intro h; exact absurd (Finset.mem_univ _) h

/-! ## The model and the acceptance -/

/-- The model's value is the sum of the coordinates' shares. -/
theorem model_eq (i : S64.Idx) (X : Fin 8192 → ℕ) (hX : ∀ k, X k < 64) (A Q : Fin 8192 → ℝ) (hx : ∀ k, x (at2 i k) = cat (X k))
    (h1 : ∀ k, w1 (col (at2 i k)) = (A k : EReal)) (h2 : ∀ k, w2 (col (at2 i k)) = (Q k : EReal)) :
    model x w1 w2 i = ((∑ k, shareAt (A k) (Q k) (X k) : ℝ) : EReal) := by
  unfold model
  rw [subf_at, mulf_at, one64_apply, const_at, sumRow_eq, sumRow_eq]
  have e1 : ∀ k : Fin 8192, mulf (sitofp (F := Ideal) .f32 x) (rows w1) (at2 i k) = ((X k * A k : ℝ) : EReal) := fun k => by
    have := hX k
    rw [mulf_at, float_at, rows_apply, h1, hx, cat_float _ (by omega), ← EReal.coe_mul]
  have e2 : ∀ k : Fin 8192, mulf (mulf (sitofp (F := Ideal) .f32 x) (sitofp (F := Ideal) .f32 x)) (rows w2) (at2 i k) = ((X k * X k * Q k : ℝ) : EReal) := fun k => by
    have := hX k
    rw [mulf_at, mulf_at, float_at, rows_apply, h2, hx, cat_float _ (by omega), ← EReal.coe_mul, ← EReal.coe_mul]
  rw [Finset.sum_congr rfl fun k _ => e1 k, Finset.sum_congr rfl fun k _ => e2 k, coe_sum, coe_sum, lit_half, ← EReal.coe_mul, ← EReal.coe_sub,
    Finset.mul_sum, ← Finset.sum_sub_distrib]
  unfold shareAt
  exact congrArg _ (Finset.sum_congr rfl fun k _ => by ring)

end Cert.ReferenceIdeal.Sample
-- ==== Proof.ReferenceStep.lean ====
/-
  One step of the reference over the extended reals: the proposal of each coordinate where its row accepts, and the present
  category elsewhere.
-/
module

public import proofs.«01_k».proof.Proof.ReferenceValue

@[expose] public section

noncomputable section

namespace Cert.ReferenceIdeal.Sample

open Cert.ReferenceIdeal Cert.ReferenceIdeal.Gen Idealize.ShloMosaic Idealize.ShloMosaic.TcCoe
open Idealize.ShloMosaic.StableHlo Cert.Sampler

/-! ## The step in reals: present categories `X`, proposals `T`, weights `A` and `Q` -/

section Reals
variable (X T : S64x8192.Idx → ℕ) (A Q : S8192.Idx → ℝ)

/-- The log-probability of proposing `T` from `X`. -/
def fwdAt (y : S64x8192.Idx) : ℝ := logProb (slopeAt (A (col y)) (Q (col y)) (X y)) (X y) (T y)
/-- The log-probability of proposing `X` from `T`. -/
def revAt (y : S64x8192.Idx) : ℝ := logProb (slopeAt (A (col y)) (Q (col y)) (T y) / 2) (T y) (X y)
/-- The change of a coordinate's share of the model. -/
def gainAt (y : S64x8192.Idx) : ℝ := shareAt (A (col y)) (Q (col y)) (T y) - shareAt (A (col y)) (Q (col y)) (X y)
/-- A row's odds of acceptance. -/
def odds (i : S64.Idx) : ℝ :=
  Real.exp ((∑ k, gainAt X T A Q (at2 i k)) + (∑ k, revAt X T A Q (at2 i k)) - ∑ k, fwdAt X T A Q (at2 i k))

end Reals

theorem near_symm {v t : ℕ} (h : Near v t) : Near t v := by have := abs_le.mp h; exact abs_le.mpr ⟨by omega, by omega⟩

theorem cmpf_ogt (x y : EReal) : FloatOps.cmpf (F := Ideal) (φ := .f32) .ogt x y = BitVec.ofBool (decide (y < x)) := rfl

theorem cmpf_at {s : Shape} (p : CmpFPredicate) (a b : FVec Ideal s .f32) (i : s.Idx) :
    cmpf p a b i = FloatOps.cmpf (F := Ideal) (φ := .f32) p (a i) (b i) := rfl

variable {x t : IVec S64x8192 32} {w1 w2 : FVec Ideal S8192 .f32} {X T : S64x8192.Idx → ℕ} {A Q : S8192.Idx → ℝ}

/-- The acceptance test compares the draw with the odds. -/
theorem accepted_eq (u : FVec Ideal S64 .f32) (hx : ∀ y, x y = cat (X y)) (ht : ∀ y, t y = cat (T y)) (hX : ∀ y, X y < 64) (hT : ∀ y, T y < 64)
    (hn : ∀ y, Near (X y) (T y)) (h1 : ∀ c, w1 c = (A c : EReal)) (h2 : ∀ c, w2 c = (Q c : EReal)) (i : S64.Idx) :
    accepted u w1 w2 t x i = BitVec.ofBool (decide (u i < ((odds X T A Q i : ℝ) : EReal))) := by
  have hf : ∀ y, logAt (logits x (grad x w1 w2)) t y = ((fwdAt X T A Q y : ℝ) : EReal) := fun y =>
    logAt_eq y (X y) (hX y) _ (fun d => logits_eq y (X y) (hX y) (hx y) _ (grad_eq y (X y) (hX y) _ _ (hx y) (h1 _) (h2 _)) d)
      (T y) (hT y) (hn y) (ht y)
  have hr : ∀ y, logAt (logits t (half (grad t w1 w2))) x y = ((revAt X T A Q y : ℝ) : EReal) := fun y =>
    logAt_eq y (T y) (hT y) _ (fun d => logits_eq y (T y) (hT y) (ht y) _ (half_eq y _ (grad_eq y (T y) (hT y) _ _ (ht y) (h1 _) (h2 _))) d)
      (X y) (hX y) (near_symm (hn y)) (hx y)
  unfold accepted
  rw [cmpf_at, exp_at, subf_at, addf_at, subf_at, sumRow_eq, sumRow_eq,
    model_eq i (fun k => T (at2 i k)) (fun k => hT _) (fun k => A (col (at2 i k))) (fun k => Q (col (at2 i k))) (fun k => ht _) (fun k => h1 _) (fun k => h2 _),
    model_eq i (fun k => X (at2 i k)) (fun k => hX _) (fun k => A (col (at2 i k))) (fun k => Q (col (at2 i k))) (fun k => hx _) (fun k => h1 _) (fun k => h2 _),
    Finset.sum_congr rfl fun k _ => hf (at2 i k), Finset.sum_congr rfl fun k _ => hr (at2 i k), coe_sum, coe_sum,
    ← EReal.coe_sub, ← EReal.coe_add, ← EReal.coe_sub, Ideal.exp_coe, cmpf_ogt, ← Finset.sum_sub_distrib]
  rfl

theorem keep_apply {α : Type} (v : S64.Idx → α) (i : S64x1.Idx) :
    broadcastInDim S64x1 ![0] bcast_S64_S64x1_0 v i = v (fun a => match a with | ⟨0, _⟩ => ⟨(i 0).val, (i 0).isLt⟩) :=
  broadcastInDim_apply _ bcast_S64_S64x1_0 v i _ (fun a => match a with
      | ⟨0, _⟩ => by show (i 0).val = if (64 : Nat) = 1 then 0 else (i 0).val; rw [if_neg (by decide)])

theorem fill_apply {α : Type} (v : S64x1.Idx → α) (y : S64x8192.Idx) :
    broadcastInDim S64x8192 ![0, 1] bcast_S64x1_S64x8192_0_1 v y
      = v (fun a => match a with | ⟨0, _⟩ => ⟨(y 0).val, (y 0).isLt⟩ | ⟨1, _⟩ => ⟨0, Nat.one_pos⟩) :=
  broadcastInDim_apply _ bcast_S64x1_S64x8192_0_1 v y _ (fun a => match a with
      | ⟨0, _⟩ => by show (y 0).val = if (64 : Nat) = 1 then 0 else (y 0).val; rw [if_neg (by decide)]
      | ⟨1, _⟩ => by show 0 = if (1 : Nat) = 1 then 0 else (y 1).val; rw [if_pos rfl])

theorem ones_apply {α : Type} (v : S_.Idx → α) (i : S64x1.Idx) : broadcastInDim S64x1 ![] bcast_S_S64x1 v i = v (fun a => a.elim0) :=
  broadcastInDim_apply _ bcast_S_S64x1 v i _ (fun a => a.elim0)

theorem fix_at {s : Shape} (a : FVec Ideal s .f32) (i : s.Idx) : fptosi (F := Ideal) (φ := .f32) 32 a i = FloatOps.fptosi (F := Ideal) (φ := .f32) 32 (a i) := rfl

theorem flag_at {s : Shape} (a : IVec s 1) (i : s.Idx) : uitofp (F := Ideal) .f32 a i = (((a i).toNat : ℝ) : EReal) := rfl

/-- A category read back from its number. -/
theorem fix_cat (v : ℕ) (h : v < 64) : FloatOps.fptosi (F := Ideal) (φ := .f32) 32 (((v : ℝ) : EReal) : Ideal .f32) = cat v := by
  show BitVec.ofInt 32 (Ideal.toIntClamped (-(2 ^ 31)) (2 ^ 31 - 1) ((v : ℝ) : EReal)) = _
  rw [Ideal.toIntClamped_coe, if_pos (Nat.cast_nonneg v), Int.floor_natCast]
  rw [min_eq_right (by norm_num; omega), max_eq_right (by norm_num)]
  rfl

/-- The row's state after the test. -/
theorem blend_eq (a : IVec S64 1) (p : Prop) [Decidable p] (y : S64x8192.Idx) (ha : a (rowOf y) = BitVec.ofBool (decide p))
    (v k : ℕ) (hv : v < 64) (hk : k < 64) (hx : x y = cat v) (ht : t y = cat k) :
    blend (F := Ideal) a t x y = if p then cat k else cat v := by
  unfold blend
  rw [fix_at, addf_at, mulf_at, mulf_at, fill_apply, fill_apply, subf_at, keep_apply, ones_apply, float_at, float_at, hx, ht, flag_at, const_at,
    cat_float v (by omega), cat_float k (by omega), lit_one]
  have ha' : a (fun c => match c with | ⟨0, _⟩ => ⟨(y 0).val, (y 0).isLt⟩) = BitVec.ofBool (decide p) := ha
  by_cases hp : p
  · have e : (a (fun c => match c with | ⟨0, _⟩ => ⟨(y 0).val, (y 0).isLt⟩)).toNat = 1 := by rw [ha', decide_eq_true hp]; rfl
    refine Eq.trans ?_ ((fix_cat k hk).trans (if_pos hp).symm)
    refine congrArg _ ((congrArg (fun n : ℕ => (((k : ℝ) : EReal) * (((n : ℕ) : ℝ) : EReal) + ((v : ℝ) : EReal) * (((1 : ℝ) : EReal) - (((n : ℕ) : ℝ) : EReal)) : EReal)) e).trans ?_)
    show (((k : ℝ) : EReal) * (((1 : ℕ) : ℝ) : EReal) + ((v : ℝ) : EReal) * (((1 : ℝ) : EReal) - (((1 : ℕ) : ℝ) : EReal)) : EReal) = _
    rw [← EReal.coe_mul, ← EReal.coe_sub, ← EReal.coe_mul, ← EReal.coe_add]
    congr 1; push_cast; ring
  · have e : (a (fun c => match c with | ⟨0, _⟩ => ⟨(y 0).val, (y 0).isLt⟩)).toNat = 0 := by rw [ha', decide_eq_false hp]; rfl
    refine Eq.trans ?_ ((fix_cat v hv).trans (if_neg hp).symm)
    refine congrArg _ ((congrArg (fun n : ℕ => (((k : ℝ) : EReal) * (((n : ℕ) : ℝ) : EReal) + ((v : ℝ) : EReal) * (((1 : ℝ) : EReal) - (((n : ℕ) : ℝ) : EReal)) : EReal)) e).trans ?_)
    show (((k : ℝ) : EReal) * (((0 : ℕ) : ℝ) : EReal) + ((v : ℝ) : EReal) * (((1 : ℝ) : EReal) - (((0 : ℕ) : ℝ) : EReal)) : EReal) = _
    rw [← EReal.coe_mul, ← EReal.coe_sub, ← EReal.coe_mul, ← EReal.coe_add]
    congr 1; push_cast; ring

/-- One step of the reference, from draws `r` of the categories and a draw `u` of each row. -/
theorem step_eq (n : FVec Ideal S64x8192x64 .f32) (u : FVec Ideal S64 .f32) (r : S64x8192.Idx → ℕ → ℝ)
    (hr : ∀ y (d : Fin 64), n (put y d) = ((r y d.val : ℝ) : EReal))
    (hx : ∀ y, x y = cat (X y)) (hX : ∀ y, X y < 64) (h1 : ∀ c, w1 c = (A c : EReal)) (h2 : ∀ c, w2 c = (Q c : EReal))
    (hT : ∀ y, First (score (r y) (slopeAt (A (col y)) (Q (col y)) (X y)) (X y)) (T y)) (y : S64x8192.Idx) :
    step n u w1 w2 x y = if u (rowOf y) < ((odds X T A Q (rowOf y) : ℝ) : EReal) then cat (T y) else cat (X y) := by
  have ht : ∀ y, proposal n w1 w2 x y = cat (T y) := fun y =>
    pick_eq _ y _ (fun d => by
      rw [addf_at, hr, logits_eq y (X y) (hX y) (hx y) _ (grad_eq y (X y) (hX y) _ _ (hx y) (h1 _) (h2 _)) d]; rfl) (T y) (hT y)
  unfold step
  exact blend_eq _ _ y (accepted_eq u hx ht hX (fun y => (hT y).1) (fun y => (hT y).near (hX y)) h1 h2 (rowOf y))
    (X y) (T y) (hX y) (hT y).1 (hx y) (ht y)

end Cert.ReferenceIdeal.Sample
-- ==== Proof.KernelStep.lean ====
/-
  One step of the kernel over the extended reals: the block-by-block row sums as sums over the row, and the step as the
  reference's is stated.
-/
module

public import proofs.«01_k».proof.Proof.Result
public import proofs.«01_k».proof.Proof.ReferenceStep

@[expose] public section

noncomputable section

namespace Cert.KernelIdeal.Sample

open Cert.KernelIdeal Cert.KernelIdeal.Gen Idealize.ShloMosaic Idealize.ShloMosaic.TcCoe Cert.Sampler
open Cert.ReferenceIdeal.Sample (at2 col rowOf odds fwdAt revAt gainAt coe_sum cmpf_ogt)

/-- A row's coordinate at a column counted modulo the row's length. -/
def atN (i : S64.Idx) (n : ℕ) : S64x8192.Idx := at2 i ⟨n % 8192, Nat.mod_lt _ (by decide)⟩

theorem at2_eq (i : S64.Idx) (k : Fin 8192) : at2 i k = atN i k.val := by
  unfold atN; congr 1; exact Fin.ext (Nat.mod_eq_of_lt k.isLt).symm

/-- The row of a column vector's coordinate. -/
abbrev head (j : S64x1.Idx) : S64.Idx := fun a => match a with | ⟨0, _⟩ => ⟨(j 0).val, (j 0).isLt⟩

theorem pay3_apply (acc : FVec Ideal S64x1 .f32) (v : FVec Ideal S64x1024 .f32) (j : S64x1.Idx) :
    k0_pay3 acc v j = (acc j + ∑ m : Fin 1024, v (fun a => match a with | ⟨0, _⟩ => ⟨(j 0).val, (j 0).isLt⟩ | ⟨1, _⟩ => ⟨m.val, m.isLt⟩) : EReal) := by
  show (acc j + shapeCast S64x1 (multiReduction (F := Ideal) .add [1] S64 v 0x00000000#32 reduces_S64x1024_S64 (.inl rfl) rfl) shapeCasts_S64_S64x1 j : EReal) = _
  rw [shapeCast_apply _ shapeCasts_S64_S64x1 j (head j) (by
    rewrite [Shape.rowMajor_val_one, Shape.rowMajor_val_two]
    have h1 : (j 1).val < 1 := (j 1).isLt
    show (j 0).val = (j 0).val * 1 + (j 1).val; omega)]
  refine congrArg (acc j + ·) ((Ideal.multiReduction_add_single v _ reduces_S64x1024_S64 _ _ (head j)).trans ?_)
  exact Finset.sum_congr rfl fun m _ => congrArg v (funext fun a => Fin.ext (by match a with | ⟨0, _⟩ => rfl | ⟨1, _⟩ => rfl))

/-- The sums over the first blocks are the row's sum over their columns. -/
theorem total_eq (f : FVec Ideal S64x8192 .f32) (j : S64x1.Idx) : ∀ k : ℕ, k ≤ 8 →
    total f k j = ∑ n ∈ Finset.range (1024 * k), f (atN (head j) n)
  | 0, _ => by
    show lit (F := Ideal) 0x00000000#32 = _
    rw [lit_zero]; simp
  | k + 1, hk => by
    show k0_pay3 (total f k) (fun j => f (cell k j)) j = _
    rw [pay3_apply, total_eq f j k (by omega), Nat.mul_succ, Finset.sum_range_add, Finset.sum_range (n := 1024)]
    refine congrArg (_ + ·) (Finset.sum_congr rfl fun m _ => congrArg f (funext fun a => Fin.ext ?_))
    rw [cell_val k (by omega)]
    have hm := m.isLt
    match a with
    | ⟨0, _⟩ => exact Nat.zero_add _
    | ⟨1, _⟩ => show 1024 * k + m.val = (1024 * k + m.val) % 8192; omega

/-- A row's total. -/
theorem total_row (f : FVec Ideal S64x8192 .f32) (r : S64x8192.Idx → ℝ) (h : ∀ y, f y = ((r y : ℝ) : EReal)) (j : S64x1.Idx) :
    total f 8 j = ((∑ k : Fin 8192, r (at2 (head j) k) : ℝ) : EReal) := by
  rw [total_eq f j 8 le_rfl, Finset.sum_range, ← coe_sum]
  exact Finset.sum_congr rfl fun k _ => by rw [h, at2_eq]

/-- A row's weight is its column's. -/
theorem weight_row (w : Vec Ideal S8192 .f32) (y : S64x8192.Idx) : weight (row w) y = w (col y) := by
  unfold weight row
  rw [broadcastTo_apply _ spreads y (fun a => match a with | ⟨0, _⟩ => ⟨0, Nat.one_pos⟩ | ⟨1, _⟩ => ⟨(y 1).val, (y 1).isLt⟩ : S1x8192.Idx)
    (fun a => match a with
      | ⟨0, _⟩ => by show 0 = if (1 : Nat) = 1 then 0 else (y 0).val; rw [if_pos rfl]
      | ⟨1, _⟩ => by show (y 1).val = if (8192 : Nat) = 1 then 0 else (y 1).val; rw [if_neg (by decide)])]
  exact shapeCast_apply w shapeCasts_S8192_S1x8192 _ (col y) (by
    rewrite [Shape.rowMajor_val_one, Shape.rowMajor_val_two]
    show (y 1).val = 0 * 8192 + (y 1).val; omega)

/-- The column vector's coordinate of a row. -/
abbrev tall (y : S64x8192.Idx) : S64x1.Idx := fun a => match a with | ⟨0, _⟩ => ⟨(y 0).val, (y 0).isLt⟩ | ⟨1, _⟩ => ⟨0, Nat.one_pos⟩

theorem rows_read {α : Type} (v : S64x1.Idx → α) (y : S64x8192.Idx) : broadcastTo S64x8192 v rowSpreads y = v (tall y) :=
  broadcastTo_apply v rowSpreads y (tall y) (fun a => match a with
      | ⟨0, _⟩ => by show (y 0).val = if (64 : Nat) = 1 then 0 else (y 0).val; rw [if_neg (by decide)]
      | ⟨1, _⟩ => by show 0 = if (1 : Nat) = 1 then 0 else (y 1).val; rw [if_pos rfl])

variable {x : IVec S64x8192 32} {w1 w2 : FVec Ideal S8192 .f32} {X : S64x8192.Idx → ℕ} {A Q : S8192.Idx → ℝ}

/-- One step of the kernel, from draws `r` of the categories: some first greatest scores `T` are its proposals, and its result is
    these where the row's draw is below the odds. -/
theorem kstep_eq (k1 k2 k3 : W) (u : Vec Ideal S64x1 .f32) (r : S64x8192.Idx → ℕ → ℝ)
    (hr : ∀ y (d i : ℕ), d < 64 → i ≤ 4 → (d : ℤ) = X y + ((i : ℤ) - 2) → noise (F := Ideal) k1 k2 k3 (count k2 x y) (place i) = ((r y d : ℝ) : EReal))
    (hx : ∀ y, x y = cat (X y)) (hX : ∀ y, X y < 64) (h1 : ∀ c, w1 c = (A c : EReal)) (h2 : ∀ c, w2 c = (Q c : EReal)) :
    ∃ T : S64x8192.Idx → ℕ, (∀ y, First (score (r y) (slopeAt (A (col y)) (Q (col y)) (X y)) (X y)) (T y))
      ∧ ∀ y, kstep k1 k2 k3 (row w1) (row w2) u x y = if u (tall y) < ((odds X T A Q (rowOf y) : ℝ) : EReal) then cat (T y) else cat (X y) := by
  choose T hT hm hf using fun y => moved_fwd k1 k2 k3 (count k2 x y) (A (col y)) (Q (col y)) (X y) (hX y) (r y) (hr y)
  refine ⟨T, hT, fun y => ?_⟩
  have hmoved : ∀ y, movedAll (F := Ideal) k1 k2 k3 (row w1) (row w2) x y = cat (T y) := fun y => by
    unfold movedAll; rw [weight_row, weight_row, h1, h2, hx]; exact hm y
  have hfwd : ∀ y, fwdAll (F := Ideal) k1 k2 k3 (row w1) (row w2) x y = ((fwdAt X T A Q y : ℝ) : EReal) := fun y => by
    unfold fwdAll; rw [weight_row, weight_row, h1, h2, hx]; exact hf y
  have hrev : ∀ y, revAll (F := Ideal) k1 k2 k3 (row w1) (row w2) x y = ((revAt X T A Q y : ℝ) : EReal) := fun y => by
    unfold revAll; rw [weight_row, weight_row, h1, h2, hmoved, hx]; exact rev_eq _ _ _ _ (hX y) (hT y).1
  have hgain : ∀ y, gainAll (F := Ideal) k1 k2 k3 (row w1) (row w2) x y = ((gainAt X T A Q y : ℝ) : EReal) := fun y => by
    unfold gainAll; rw [weight_row, weight_row, h1, h2, hmoved, hx]; exact gain_eq _ _ _ _ (hX y) (hT y).1
  have hacc : ∀ j, accepts (F := Ideal) k1 k2 k3 (row w1) (row w2) u x j = BitVec.ofBool (decide (u j < ((odds X T A Q (head j) : ℝ) : EReal))) := fun j => by
    unfold accepts
    show FloatOps.cmpf (F := Ideal) (φ := .f32) .ogt (Ideal.exp ((total (F := Ideal) _ 8 j + total (F := Ideal) _ 8 j : EReal) - total (F := Ideal) _ 8 j)) (u j) = _
    rw [total_row _ _ hfwd, total_row _ _ hrev, total_row _ _ hgain, ← EReal.coe_add, ← EReal.coe_sub, Ideal.exp_coe, cmpf_ogt]
    rfl
  show Scalar.select (broadcastTo S64x8192 _ rowSpreads y) (movedAll _ _ _ _ _ x y) (x y) = _
  rw [rows_read, hacc, hmoved, hx, select_bool]
  rfl

end Cert.KernelIdeal.Sample
-- ==== Proof.Words.lean ====
/-
  The reference's random words: each is the threefry word of a key and a counter.
-/
module

public import proofs.«01_k».proof.Proof.Gen.ReferenceIdeal.Read
public import proofs.«01_k».proof.Proof.Noise
public import Idealize.ShloMosaic.Lib.Tactic

@[expose] public section

set_option maxRecDepth 65536

noncomputable section

namespace Cert.ReferenceIdeal.Sample

open Cert.ReferenceIdeal Cert.ReferenceIdeal.Gen Cert.ReferenceIdeal.Read Idealize.ShloMosaic Idealize.ShloMosaic.TcCoe
open Idealize.ShloMosaic.StableHlo Idealize.ShloMosaic.Tactic Cert.Sampler

/-! ## The rounds in the reference's order of operands -/

/-- A word turned left by `r` places. -/
def hostTurn (r s x : W) : W := IntOp.ori (IntOp.shli .host x r) (IntOp.shrui .host x s)
/-- One round. -/
def hostMix (r s : W) (p : W × W) : W × W := (IntOp.addi p.1 p.2, IntOp.xori (hostTurn r s p.2) (IntOp.addi p.1 p.2))
/-- The four rounds of the even groups. -/
def hostEven (p : W × W) : W × W := hostMix 6#32 26#32 (hostMix 26#32 6#32 (hostMix 15#32 17#32 (hostMix 13#32 19#32 p)))
/-- The four rounds of the odd groups. -/
def hostOdd (p : W × W) : W × W := hostMix 24#32 8#32 (hostMix 16#32 16#32 (hostMix 29#32 3#32 (hostMix 17#32 15#32 p)))
/-- A key addition. -/
def hostInject (a b n : W) (p : W × W) : W × W := (IntOp.addi p.1 a, IntOp.addi p.2 (IntOp.addi b n))
/-- Threefry. -/
def hostThreefry (k1 k2 k3 : W) (p : W × W) : W × W :=
  hostInject k3 k1 5#32 (hostEven (hostInject k2 k3 4#32 (hostOdd (hostInject k1 k2 3#32 (hostEven
    (hostInject k3 k1 2#32 (hostOdd (hostInject k2 k3 1#32 (hostEven p)))))))))

theorem hostMix_eq (r s : W) (hr : r.toNat < 32) (hs : s.toNat < 32) (p : W × W) : hostMix r s p = mix r s p := by
  unfold hostMix mix hostTurn turn
  refine Prod.ext rfl ?_
  show (_ ^^^ _ : BitVec 32) = _ ^^^ _
  rw [BitVec.xor_comm]
  refine congrArg _ ?_
  unfold IntOp.shli IntOp.shrui
  simp [hr, hs]

theorem hostInject_eq (a b n : W) (p : W × W) : hostInject a b n p = inject a b n p :=
  Prod.ext rfl (BitVec.add_assoc p.2 b n).symm

theorem hostEven_eq (p : W × W) : hostEven p = even p := by
  unfold hostEven even; simp only [hostMix_eq _ _ (by decide : (13#32 : W).toNat < 32) (by decide : (19#32 : W).toNat < 32),
    hostMix_eq _ _ (by decide : (15#32 : W).toNat < 32) (by decide : (17#32 : W).toNat < 32),
    hostMix_eq _ _ (by decide : (26#32 : W).toNat < 32) (by decide : (6#32 : W).toNat < 32),
    hostMix_eq _ _ (by decide : (6#32 : W).toNat < 32) (by decide : (26#32 : W).toNat < 32)]

theorem hostOdd_eq (p : W × W) : hostOdd p = odd p := by
  unfold hostOdd odd; simp only [hostMix_eq _ _ (by decide : (17#32 : W).toNat < 32) (by decide : (15#32 : W).toNat < 32),
    hostMix_eq _ _ (by decide : (29#32 : W).toNat < 32) (by decide : (3#32 : W).toNat < 32),
    hostMix_eq _ _ (by decide : (16#32 : W).toNat < 32) (by decide : (16#32 : W).toNat < 32),
    hostMix_eq _ _ (by decide : (24#32 : W).toNat < 32) (by decide : (8#32 : W).toNat < 32)]

theorem hostThreefry_eq (k1 k2 k3 : W) (p : W × W) : hostThreefry k1 k2 k3 p = threefry k1 k2 k3 p := by
  unfold hostThreefry threefry; simp only [hostInject_eq, hostEven_eq, hostOdd_eq]

/-! ## The words -/

variable {F : FTy → Type} [FloatOps F]

/-- A key word at each of its stream's counters. -/
def keyed (v : IVec S4x1x1x1 32) : IVec S4x64x8192x64 32 :=
  broadcastInDim S4x64x8192x64 ![0, 1, 2, 3] bcast_S4x1x1x1_S4x64x8192x64_0_1_2_3 v

theorem words (i : S4x64x8192x64.Idx) : val_main_v205 (F := F) i
    = IntOp.xori (hostThreefry (keyed (val_main_v5 (F := F)) i) (keyed (val_main_v11 (F := F)) i) (keyed (val_main_v14 (F := F)) i) (val_main_v30 (F := F) i, val_main_v34 (F := F) i)).1
      (hostThreefry (keyed (val_main_v5 (F := F)) i) (keyed (val_main_v11 (F := F)) i) (keyed (val_main_v14 (F := F)) i) (val_main_v30 (F := F) i, val_main_v34 (F := F) i)).2 := by
  sl_kernel_rfl

/-- A stream's counter. -/
abbrev quad (s : Fin 4) (b : Fin 64) (c : Fin 8192) (d : Fin 64) : S4x64x8192x64.Idx := fun a => match a with
  | ⟨0, _⟩ => ⟨s.val, s.isLt⟩ | ⟨1, _⟩ => ⟨b.val, b.isLt⟩ | ⟨2, _⟩ => ⟨c.val, c.isLt⟩ | ⟨3, _⟩ => ⟨d.val, d.isLt⟩

/-- A stream's key. -/
abbrev lock (s : Fin 4) : S4x1x1x1.Idx := fun a => match a with
  | ⟨0, _⟩ => ⟨s.val, s.isLt⟩ | ⟨1, _⟩ => ⟨0, Nat.one_pos⟩ | ⟨2, _⟩ => ⟨0, Nat.one_pos⟩ | ⟨3, _⟩ => ⟨0, Nat.one_pos⟩

theorem keyed_quad (v : IVec S4x1x1x1 32) (s : Fin 4) (b : Fin 64) (c : Fin 8192) (d : Fin 64) : keyed v (quad s b c d) = v (lock s) :=
  broadcastInDim_apply _ bcast_S4x1x1x1_S4x64x8192x64_0_1_2_3 v _ (lock s) (fun a => match a with
    | ⟨0, _⟩ => by show s.val = if (4 : Nat) = 1 then 0 else s.val; rw [if_neg (by decide)]
    | ⟨1, _⟩ => by show 0 = if (1 : Nat) = 1 then 0 else b.val; rw [if_pos rfl]
    | ⟨2, _⟩ => by show 0 = if (1 : Nat) = 1 then 0 else c.val; rw [if_pos rfl]
    | ⟨3, _⟩ => by show 0 = if (1 : Nat) = 1 then 0 else d.val; rw [if_pos rfl])

/-- The streams' first key words. -/
def keyA (s : Fin 4) : W := match s with | 0 => 1832780943#32 | 1 => 3134548294#32 | 2 => 64467757#32 | 3 => 2954079971#32
/-- The streams' second key words. -/
def keyB (s : Fin 4) : W := match s with | 0 => 270669613#32 | 1 => 894150801#32 | 2 => 2916123636#32 | 3 => 3276725750#32

theorem lock_A (s : Fin 4) : val_main_v5 (F := F) (lock s) = keyA s := match s with
  | 0 => by sl_kernel_rfl | 1 => by sl_kernel_rfl | 2 => by sl_kernel_rfl | 3 => by sl_kernel_rfl

theorem lock_B (s : Fin 4) : val_main_v11 (F := F) (lock s) = keyB s := match s with
  | 0 => by sl_kernel_rfl | 1 => by sl_kernel_rfl | 2 => by sl_kernel_rfl | 3 => by sl_kernel_rfl

/-- A coordinate's counter. -/
def counter (b c d : ℕ) : W := IntOp.addi (IntOp.muli (IntOp.addi (IntOp.muli (IntOp.addi (IntOp.muli 0#32 64#32) (BitVec.ofNat 32 b)) 8192#32) (BitVec.ofNat 32 c)) 64#32) (BitVec.ofNat 32 d)

theorem counter_eq (b c d : ℕ) : counter b c d = (BitVec.ofNat 32 b * 8192#32 + BitVec.ofNat 32 c) * 64#32 + BitVec.ofNat 32 d := by
  show ((0#32 * 64#32 + BitVec.ofNat 32 b) * 8192#32 + BitVec.ofNat 32 c) * 64#32 + BitVec.ofNat 32 d = _
  rw [BitVec.zero_mul, BitVec.zero_add]

theorem word (s : Fin 4) (b : Fin 64) (c : Fin 8192) (d : Fin 64) : val_main_v205 (F := F) (quad s b c d)
    = bits (keyA s) (keyB s) (keyA s ^^^ keyB s ^^^ 466688986#32) (keyB s + counter b.val c.val d.val) := by
  have h30 : val_main_v30 (F := F) (quad s b c d) = keyA s := by
    have e : val_main_v30 (F := F) (quad s b c d) = IntOp.addi (keyed (val_main_v5 (F := F)) (quad s b c d)) 0#32 := by sl_kernel_rfl
    rw [e, keyed_quad, lock_A]; exact BitVec.add_zero _
  have h34 : val_main_v34 (F := F) (quad s b c d) = keyB s + counter b.val c.val d.val := by
    have e : val_main_v34 (F := F) (quad s b c d) = IntOp.addi (keyed (val_main_v11 (F := F)) (quad s b c d)) (counter b.val c.val d.val) := by sl_kernel_rfl
    rw [e, keyed_quad, lock_B]; rfl
  have h14 : val_main_v14 (F := F) (lock s) = keyA s ^^^ keyB s ^^^ 466688986#32 := by
    have e : val_main_v14 (F := F) (lock s) = IntOp.xori (IntOp.xori (val_main_v5 (F := F) (lock s)) (val_main_v11 (F := F) (lock s))) 466688986#32 := by sl_kernel_rfl
    rw [e, lock_A, lock_B]; rfl
  rw [words, keyed_quad, keyed_quad, keyed_quad, lock_A, lock_B, h14, h30, h34, hostThreefry_eq]
  rfl

end Cert.ReferenceIdeal.Sample
-- ==== Proof.Draws.lean ====
/-
  The draws of the two programs: the noise of each category, computed by both, and the acceptance draws, which the kernel holds
  as a table of constants and the reference computes.
-/
module

public import proofs.«01_k».proof.Proof.KernelStep
public import proofs.«01_k».proof.Proof.Words

@[expose] public section

set_option maxRecDepth 65536

noncomputable section

namespace Cert.Agree

open Idealize.ShloMosaic Idealize.ShloMosaic.TcCoe Idealize.ShloMosaic.StableHlo Idealize.ShloMosaic.Tactic Cert.Sampler
open Cert.ReferenceIdeal Cert.ReferenceIdeal.Gen Cert.ReferenceIdeal.Read Cert.ReferenceIdeal.Sample

/-! ## The noise -/

/-- A stream's word at a counter. -/
def wordAt (s : Fin 4) (b c d : ℕ) : W := bits (keyA s) (keyB s) (keyA s ^^^ keyB s ^^^ 466688986#32) (keyB s + counter b c d)

/-- A stream's noise of a category. -/
def noiseAt (s : Fin 4) (y : S64x8192.Idx) (d : ℕ) : ℝ := gumbel (wordAt s (y 0).val (y 1).val d)

/-- A noise stream's counter. -/
abbrev quad2 (s : Fin 2) (b : Fin 64) (c : Fin 8192) (d : Fin 64) : S2x64x8192x64.Idx := fun a => match a with
  | ⟨0, _⟩ => ⟨s.val, s.isLt⟩ | ⟨1, _⟩ => ⟨b.val, b.isLt⟩ | ⟨2, _⟩ => ⟨c.val, c.isLt⟩ | ⟨3, _⟩ => ⟨d.val, d.isLt⟩

section Chain
variable {F : FTy → Type} [FloatOps F]

theorem noise_chain (i : S2x64x8192x64.Idx) : val_main_v219 (F := F) i
    = FloatOps.hostNegf (FloatOps.hostUnary .log (FloatOps.hostNegf (FloatOps.hostUnary .log (FloatOps.addf (FloatOps.subf
        (FloatOps.ofBits (F := F) .f32 (IntOp.ori (IntOp.shrui .host (val_main_v206 (F := F) i) 9#32) 1065353216#32))
        (FloatOps.ofBits .f32 0x3F800000#32)) (FloatOps.ofBits .f32 0x00800000#32))))) := by
  sl_kernel_rfl

theorem unit_chain (i : S2x64.Idx) : val_main_v228 (F := F) i
    = FloatOps.subf (FloatOps.ofBits (F := F) .f32 (IntOp.ori (IntOp.shrui .host (val_main_v221 (F := F) i) 9#32) 1065353216#32))
        (FloatOps.ofBits .f32 0x3F800000#32) := by
  sl_kernel_rfl

end Chain

theorem host_noise (s : Fin 2) (b : Fin 64) (c : Fin 8192) (d : Fin 64) :
    val_main_v219 (F := Ideal) (quad2 s b c d) = ((gumbel (wordAt (s.castLE (by decide)) b.val c.val d.val) : ℝ) : EReal) := by
  rw [noise_chain, val_main_v206_apply]
  have e : idx_main_v206 (quad2 s b c d) = quad (s.castLE (by decide)) b c d :=
    funext fun a => Fin.ext (by match a with | ⟨0, _⟩ => rfl | ⟨1, _⟩ => rfl | ⟨2, _⟩ => rfl | ⟨3, _⟩ => rfl)
  rw [e, word]
  exact host_gumbel (wordAt (s.castLE (by decide)) b.val c.val d.val)

theorem first_noise (y : S64x8192.Idx) (d : Fin 64) : val_main_v230 (F := Ideal) (put y d) = ((noiseAt 0 y d.val : ℝ) : EReal) := by
  rw [val_main_v230_apply, val_main_v229_apply]
  have h0 : (y 0).val < 64 := (y 0).isLt
  have h1 : (y 1).val < 8192 := (y 1).isLt
  have h2 := d.isLt
  have e : idx_main_v229 (idx_main_v230 (put y d)) = quad2 0 ⟨(y 0).val, h0⟩ ⟨(y 1).val, h1⟩ d :=
    funext fun a => Fin.ext (by match a with
      | ⟨0, _⟩ => rfl
      | ⟨1, _⟩ => show (((y 0).val * 8192 + (y 1).val) * 64 + d.val) / 524288 % 64 = (y 0).val; omega
      | ⟨2, _⟩ => show (((y 0).val * 8192 + (y 1).val) * 64 + d.val) / 64 % 8192 = (y 1).val; omega
      | ⟨3, _⟩ => show (((y 0).val * 8192 + (y 1).val) * 64 + d.val) % 64 = d.val; omega)
  rw [e, host_noise]; rfl

theorem second_noise (y : S64x8192.Idx) (d : Fin 64) : val_main_v413 (F := Ideal) (put y d) = ((noiseAt 1 y d.val : ℝ) : EReal) := by
  rw [val_main_v413_apply, val_main_v412_apply]
  have h0 : (y 0).val < 64 := (y 0).isLt
  have h1 : (y 1).val < 8192 := (y 1).isLt
  have h2 := d.isLt
  have e : idx_main_v412 (idx_main_v413 (put y d)) = quad2 1 ⟨(y 0).val, h0⟩ ⟨(y 1).val, h1⟩ d :=
    funext fun a => Fin.ext (by match a with
      | ⟨0, _⟩ => rfl
      | ⟨1, _⟩ => show (((y 0).val * 8192 + (y 1).val) * 64 + d.val) / 524288 % 64 = (y 0).val; omega
      | ⟨2, _⟩ => show (((y 0).val * 8192 + (y 1).val) * 64 + d.val) / 64 % 8192 = (y 1).val; omega
      | ⟨3, _⟩ => show (((y 0).val * 8192 + (y 1).val) * 64 + d.val) % 64 = d.val; omega)
  rw [e, host_noise]; rfl

/-- The kernel's noise at a place of the window is the category's. -/
theorem kernel_noise (s : Fin 4) (k3 : W) (hk : keyA s ^^^ keyB s ^^^ 466688986#32 = k3) (x : IVec S64x8192 32) (X : S64x8192.Idx → ℕ) (hx : ∀ y, x y = cat (X y)) (y : S64x8192.Idx) (d i : ℕ)
    (he : (d : ℤ) = X y + ((i : ℤ) - 2)) :
    noise (F := Ideal) (keyA s) (keyB s) k3 (Cert.KernelIdeal.Gen.count (keyB s) x y) (place i) = ((noiseAt s y d : ℝ) : EReal) := by
  unfold noise
  rw [gumbelOf_eq]
  unfold noiseAt wordAt
  rw [hk]
  have e : IntOp.addi (Cert.KernelIdeal.Gen.count (keyB s) x y) (place i) = keyB s + counter (y 0).val (y 1).val d := by
    unfold Cert.KernelIdeal.Gen.count
    rw [counter_eq, hx, show BitVec.ofNat 32 d = cat d from rfl, ← cat_place (X y) d i he]
    show keyB s + (_ + cat (X y)) + place i = keyB s + (_ + (cat (X y) + place i))
    rw [BitVec.add_assoc, BitVec.add_assoc]
  rw [e]

/-! ## The acceptance draws -/

/-- A step's stream of acceptance draws. -/
def drawStream (s : Fin 2) : Fin 4 := ⟨2 + s.val, by omega⟩

/-- A row's word of a draw. -/
def drawWord (s : Fin 2) (i : ℕ) : W := wordAt (drawStream s) 0 0 i

/-- A draw's index. -/
abbrev duo (s : Fin 2) (i : Fin 64) : S2x64.Idx := fun a => match a with
  | ⟨0, _⟩ => ⟨s.val, s.isLt⟩ | ⟨1, _⟩ => ⟨i.val, i.isLt⟩

theorem host_draw (s : Fin 2) (i : Fin 64) : val_main_v228 (F := Ideal) (duo s i) = ((unit (drawWord s i.val) : ℝ) : EReal) := by
  rw [unit_chain, val_main_v221_apply, val_main_v220_apply]
  have hi := i.isLt
  have hs := s.isLt
  have e : idx_main_v220 (idx_main_v221 (duo s i)) = quad (drawStream s) 0 0 i :=
    funext fun a => Fin.ext (by match a with
      | ⟨0, _⟩ => show 2 + (s.val * 64 + i.val) / 64 = 2 + s.val; omega
      | ⟨1, _⟩ => rfl
      | ⟨2, _⟩ => rfl
      | ⟨3, _⟩ => show (s.val * 64 + i.val) % 64 = i.val; omega)
  rw [e, word]
  rw [show bits (keyA (drawStream s)) (keyB (drawStream s)) (keyA (drawStream s) ^^^ keyB (drawStream s) ^^^ 466688986#32)
    (keyB (drawStream s) + counter (0 : Fin 64).val (0 : Fin 8192).val i.val) = drawWord s i.val from rfl]
  generalize drawWord s i.val = b
  show (Ideal.ofBits .f32 (unitBits b) - lit (F := Ideal) 0x3F800000#32 : EReal) = _
  rw [ofBits_unitBits, lit_one, ← EReal.coe_sub, add_sub_cancel_left]

theorem first_draw (i : S64.Idx) : val_main_v232 (F := Ideal) i = ((unit (drawWord 0 (i 0).val) : ℝ) : EReal) := by
  rw [val_main_v232_apply, val_main_v231_apply]
  have h0 : (i 0).val < 64 := (i 0).isLt
  have e : idx_main_v231 (idx_main_v232 i) = duo 0 ⟨(i 0).val, h0⟩ :=
    funext fun a => Fin.ext (by match a with
      | ⟨0, _⟩ => rfl
      | ⟨1, _⟩ => show (i 0).val % 64 = (i 0).val; omega)
  rw [e, host_draw]

theorem second_draw (i : S64.Idx) : val_main_v415 (F := Ideal) i = ((unit (drawWord 1 (i 0).val) : ℝ) : EReal) := by
  rw [val_main_v415_apply, val_main_v414_apply]
  have h0 : (i 0).val < 64 := (i 0).isLt
  have e : idx_main_v414 (idx_main_v415 i) = duo 1 ⟨(i 0).val, h0⟩ :=
    funext fun a => Fin.ext (by match a with
      | ⟨0, _⟩ => rfl
      | ⟨1, _⟩ => show (i 0).val % 64 = (i 0).val; omega)
  rw [e, host_draw]

/-- The number of a normal word below one that is a multiple of the uniform variates' spacing. -/
theorem ofBits_below (w : W) (e f n : ℕ) (hf : f < 2 ^ 23) (he : 1 ≤ e) (he' : e ≤ 127) (hw : w.toNat = 2 ^ 23 * e + f)
    (hn : 2 ^ 23 + f = n * 2 ^ (127 - e)) : Ideal.ofBits .f32 w = ((n / 2 ^ 23 : ℝ) : EReal) := by
  have h1 : (w.extractLsb' 31 1 == 1#1) = false := by
    rw [beq_eq_false_iff_ne]; intro h
    have := congrArg BitVec.toNat h
    rw [BitVec.extractLsb'_toNat, hw, Nat.shiftRight_eq_div_pow] at this
    simp at this; omega
  have h2 : (w.extractLsb' 23 8).toNat = e := by
    rw [BitVec.extractLsb'_toNat, hw, Nat.shiftRight_eq_div_pow]; omega
  have h3 : (w.extractLsb' 0 23).toNat = f := by
    rw [BitVec.extractLsb'_toNat, hw, Nat.shiftRight_eq_div_pow]; omega
  have hr : (8388608 + f : ℝ) = n * 2 ^ (127 - e) := by
    rw [show (2 : ℕ) ^ 23 = 8388608 by norm_num] at hn; exact_mod_cast hn
  have hp : (2 : ℝ) ^ ((e : ℤ) - 127) * 2 ^ (127 - e) = 1 := by
    rw [← zpow_natCast, ← zpow_add₀ (by norm_num), show (e : ℤ) - 127 + ((127 - e : ℕ) : ℤ) = 0 by omega, zpow_zero]
  show Ideal.ieee 8 23 w = _
  unfold Ideal.ieee
  simp only [h1, h2, h3]
  rw [if_neg (by norm_num; omega), if_neg (by omega), if_neg Bool.false_ne_true, one_mul]
  refine congrArg _ ?_
  push_cast
  rw [hr, show (e : ℤ) - 127 - 23 = ((e : ℤ) - 127) + (-23) by ring, zpow_add₀ (by norm_num)]
  rw [show (n : ℝ) * 2 ^ (127 - e) * (2 ^ ((e : ℤ) - 127) * 2 ^ (-23 : ℤ)) = n * (2 ^ ((e : ℤ) - 127) * 2 ^ (127 - e)) * 2 ^ (-23 : ℤ) by ring, hp, mul_one,
    zpow_neg, div_eq_mul_inv]
  norm_num

/-- A table word is the uniform variate of a random word. -/
def matchesDraw (w b : W) : Bool :=
  decide (1 ≤ w.toNat / 2 ^ 23) && decide (w.toNat / 2 ^ 23 ≤ 127) && decide (2 ^ 23 + w.toNat % 2 ^ 23 = b.toNat / 512 * 2 ^ (127 - w.toNat / 2 ^ 23))

theorem matchesDraw_eq (w b : W) (h : matchesDraw w b = true) : Ideal.ofBits .f32 w = ((unit b : ℝ) : EReal) := by
  unfold matchesDraw at h
  simp only [Bool.and_eq_true, decide_eq_true_eq] at h
  exact ofBits_below w _ _ _ (Nat.mod_lt _ (by norm_num)) h.1.1 h.1.2 (Nat.div_add_mod _ _).symm h.2

theorem table (i : Fin 64) (s : Fin 2) : matchesDraw (Cert.KernelIdeal.lit0 ⟨i.val * 2 + s.val, by omega⟩) (drawWord s i.val) = true := by
  revert i s; decide +kernel

/-- The kernel's draw of a row is the uniform variate of its word. -/
theorem kernel_draw (s : Fin 2) (inb : ∀ a, (![0, s.val] : Fin 2 → ℕ) a + (![64, 1] : Fin 2 → ℕ) a ≤ Cert.KernelIdeal.S64x2.size a) (y : S64x8192.Idx) :
    VecWindow.window (Cert.KernelIdeal.Sample.draws (F := Ideal)) ![0, s.val] ![64, 1] inb (Cert.KernelIdeal.Sample.tall y)
      = ((unit (drawWord s (y 0).val) : ℝ) : EReal) := by
  have h0 : (y 0).val < 64 := (y 0).isLt
  rw [← matchesDraw_eq _ _ (table ⟨(y 0).val, h0⟩ s)]
  refine congrArg (fun k => Ideal.ofBits .f32 (Cert.KernelIdeal.lit0 k)) (Fin.ext ?_)
  refine (Shape.rowMajor_val_two _).trans ?_
  show (0 + 1 * (y 0).val) * 2 + (s.val + 1 * 0) = (y 0).val * 2 + s.val
  omega

end Cert.Agree
-- ==== Proof.Agree.lean ====
/-
  The two programs' results agree where every coordinate holds a category and the weights are finite.
-/
module

public import proofs.«01_k».proof.Proof.Draws

@[expose] public section

noncomputable section

namespace Cert.Agree

open Idealize.ShloMosaic Idealize.ShloMosaic.TcCoe Cert.Sampler
open Cert.ReferenceIdeal Cert.ReferenceIdeal.Gen Cert.ReferenceIdeal.Read Cert.ReferenceIdeal.Sample
open Cert.KernelIdeal.Sample (row tall kstep_eq result draws)
open Cert.KernelIdeal.Gen (kstep kout)

variable {w1 w2 : FVec Ideal S8192 .f32} {A Q : S8192.Idx → ℝ}

/-- One step of each from the same state: the same state, again of categories. -/
theorem step_agree (s : Fin 4) (k3 : W) (hk : keyA s ^^^ keyB s ^^^ 466688986#32 = k3) (n : FVec Ideal S64x8192x64 .f32) (u : FVec Ideal S64 .f32)
    (v : Vec Ideal Cert.KernelIdeal.S64x1 .f32) (hn : ∀ y (d : Fin 64), n (put y d) = ((noiseAt s y d.val : ℝ) : EReal)) (hu : ∀ y, v (tall y) = u (rowOf y))
    (x : IVec S64x8192 32) (X : S64x8192.Idx → ℕ) (hx : ∀ y, x y = cat (X y)) (hX : ∀ y, X y < 64)
    (h1 : ∀ c, w1 c = (A c : EReal)) (h2 : ∀ c, w2 c = (Q c : EReal)) :
    kstep (keyA s) (keyB s) k3 (row w1) (row w2) v x = step n u w1 w2 x
      ∧ ∃ X' : S64x8192.Idx → ℕ, (∀ y, step n u w1 w2 x y = cat (X' y)) ∧ ∀ y, X' y < 64 := by
  classical
  obtain ⟨T, hT, he⟩ := kstep_eq (w1 := w1) (w2 := w2) (keyA s) (keyB s) k3 v (noiseAt s)
    (fun y d i _ _ h => kernel_noise s k3 hk x X hx y d i h) hx hX h1 h2
  have hs := step_eq n u (noiseAt s) hn hx hX h1 h2 hT
  refine ⟨funext fun y => ?_, fun y => if u (rowOf y) < ((odds X T A Q (rowOf y) : ℝ) : EReal) then T y else X y, fun y => ?_, fun y => ?_⟩
  · rw [he, hs, hu]
  · rw [hs]; beta_reduce; split_ifs <;> rfl
  · show (if _ then _ else _) < 64
    split_ifs
    · exact (hT y).1
    · exact hX y

/-- The kernel's result is the reference's. -/
theorem agree (x : IVec S64x8192 32) (X : S64x8192.Idx → ℕ) (hx : ∀ y, x y = cat (X y)) (hX : ∀ y, X y < 64)
    (h1 : ∀ c, w1 c = (A c : EReal)) (h2 : ∀ c, w2 c = (Q c : EReal)) : result (F := Ideal) x w1 w2 = val_main_v594 (F := Ideal) x w1 w2 := by
  obtain ⟨e1, X', hx', hX'⟩ := step_agree 0 1724713080#32 (by decide) (val_main_v230 (F := Ideal)) (val_main_v232 (F := Ideal))
    (VecWindow.window draws ![0, 0] ![64, 1] Cert.KernelIdeal.Gen.inb_S64x2_S64x1_0_0) first_noise
    (fun y => (kernel_draw 0 Cert.KernelIdeal.Gen.inb_S64x2_S64x1_0_0 y).trans (first_draw (rowOf y)).symm) x X hx hX h1 h2
  obtain ⟨e2, _⟩ := step_agree 1 2488261133#32 (by decide) (val_main_v413 (F := Ideal)) (val_main_v415 (F := Ideal))
    (VecWindow.window draws ![0, 1] ![64, 1] Cert.KernelIdeal.Gen.inb_S64x2_S64x1_0_1) second_noise
    (fun y => (kernel_draw 1 Cert.KernelIdeal.Gen.inb_S64x2_S64x1_0_1 y).trans (second_draw (rowOf y)).symm) _ X' hx' hX' h1 h2
  rw [second, ← e2, ← e1]
  rfl

end Cert.Agree
-- ==== Proof.Algebraic.lean ====
/-
  The algebraic claim: what the precondition says of the arguments, and the two programs' runs set side by side.
-/
module

public import proofs.«01_k».proof.Defs
public import proofs.«01_k».proof.Proof.Gen.Pre_categories_and_finite_weights
public import proofs.«01_k».proof.Proof.Agree

@[expose] public section

noncomputable section

namespace Cert.Agree

open Idealize.ShloMosaic Idealize.ShloMosaic.TcCoe Idealize.SL.Sem Cert.Sampler
open Cert.ReferenceIdeal Cert.ReferenceIdeal.Gen Cert.ReferenceIdeal.Read Cert.ReferenceIdeal.Sample

/-- The bits of plus infinity. -/
theorem lit_top : lit (F := Ideal) 0x7F800000#32 = (⊤ : EReal) := by
  rw [lit_eq]; simp [Ideal.ofBits, Ideal.ieee]

/-- A conjunction of two bits is one where both are. -/
theorem and_one : ∀ a b : BitVec 1, a &&& b = 1#1 → a = 1#1 ∧ b = 1#1 := by decide

/-- A word between zero and 64 is the word of its number, which is below 64. -/
theorem category_of (w : W) (h : IntOp.andi (IntOp.cmpi .sge w 0#32) (IntOp.cmpi .slt w 64#32) = 1#1) : w = cat w.toNat ∧ w.toNat < 64 := by
  refine ⟨BitVec.eq_of_toNat_eq (by rw [cat, BitVec.toNat_ofNat, Nat.mod_eq_of_lt w.isLt]), ?_⟩
  obtain ⟨h0, h1⟩ := and_one _ _ h
  replace h0 : BitVec.ofBool (BitVec.sle 0#32 w) = 1#1 := h0
  replace h1 : BitVec.ofBool (BitVec.slt w 64#32) = 1#1 := h1
  have e (b : Bool) : BitVec.ofBool b = 1#1 → b = true := by cases b <;> decide
  have h0 := e _ h0
  have h1 := e _ h1
  rw [BitVec.sle_eq_decide, decide_eq_true_eq] at h0
  rw [BitVec.slt_eq_decide, decide_eq_true_eq] at h1
  rw [show (0#32 : W).toInt = 0 by decide, BitVec.toInt_eq_toNat_cond] at h0
  rw [show (64#32 : W).toInt = 64 by decide, BitVec.toInt_eq_toNat_cond] at h1
  have := w.isLt
  split_ifs at h0 h1 <;> omega

/-- A number strictly between the infinities is real. -/
theorem real_of (a : Ideal .f32) (h : IntOp.andi (FloatOps.cmpf (F := Ideal) .ogt a (lit 0xFF800000#32)) (FloatOps.cmpf (F := Ideal) .olt a (lit 0x7F800000#32)) = 1#1) :
    a = ((EReal.toReal a : ℝ) : EReal) := by
  obtain ⟨h0, h1⟩ := and_one _ _ h
  rw [lit_bot] at h0
  rw [lit_top] at h1
  have e (p : Prop) [Decidable p] : BitVec.ofBool (decide p) = 1#1 → p := by by_cases hp : p <;> simp [hp]
  have h0 : (⊥ : EReal) < a := e _ h0
  have h1 : a < (⊤ : EReal) := e _ h1
  exact (EReal.coe_toReal h1.ne h0.ne').symm

/-- Where the precondition holds, the kernel's result is the reference's. -/
theorem agree_of_pre (x : IVec S64x8192 32) (w1 w2 : FVec Ideal S8192 .f32)
    (h : (Cert.Pre_categories_and_finite_weights.fn (F := Ideal) x w1 w2).1 = (fun _ => 1#1)
      ∧ (Cert.Pre_categories_and_finite_weights.fn (F := Ideal) x w1 w2).2.1 = (fun _ => 1#1)
      ∧ (Cert.Pre_categories_and_finite_weights.fn (F := Ideal) x w1 w2).2.2 = (fun _ => 1#1)) :
    Cert.KernelIdeal.Sample.result (F := Ideal) x w1 w2 = val_main_v594 (F := Ideal) x w1 w2 :=
  agree x (fun y => (x y).toNat) (fun y => (category_of (x y) (congrFun h.1 y)).1) (fun y => (category_of (x y) (congrFun h.1 y)).2)
    (fun c => real_of (w1 c) (congrFun h.2.1 c)) (fun c => real_of (w2 c) (congrFun h.2.2 c))

/-- The kernel and the reference end at the same result. -/
theorem algebraic : Cert.algebraic_KernelIdeal_ReferenceIdeal_pre_categories_and_finite_weights := by
  intro m g m' g' hpre hargs
  refine ⟨_, Cert.KernelIdeal.Sample.run m g, (θ_run defs _ _).mono (fun r h c => ⟨?_, (h c).2⟩) (Cert.ReferenceIdeal.Value.run (F := Ideal) m' g')⟩
  obtain ⟨e0, e1, e2⟩ := hargs c
  refine ((h c).1.trans (val_main_v594_eq (F := Ideal) (StableHlo.launchContents m' c))).trans ?_
  rw [StableHlo.launchContents_devRef, StableHlo.launchContents_devRef, StableHlo.launchContents_devRef]
  refine Eq.trans ?_ (agree_of_pre _ _ _ (hpre c)).symm
  exact congr (congr (congrArg _ e0) e1) e2

end Cert.Agree
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_categories_and_finite_weights
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem frameReference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The claims: the frames, that the kernel and its idealization agree (nothing is rewritten), and that over the extended
    reals the kernel and the reference end at the same result. -/
theorem claim : Cert.Claim := ⟨Cert.Kernel.Gen.facts, Cert.KernelIdeal.Gen.facts, Cert.ReferenceIdeal.Gen.facts, Cert.Pre_categories_and_finite_weights.Gen.facts,
  fun m ρ _ => Cert.Kernel.Sample.frame Bits m ρ, fun m ρ _ => Cert.KernelIdeal.Sample.frame m ρ, fun m ρ _ => Cert.KernelIdeal.Sample.frame m ρ,
  frameReference, fun m ρ _ => frameReference m ρ trivial, trivial, Cert.Agree.algebraic⟩

end Cert.Proof

end
